-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x2048 : Shape := ⟨2, ![4096, 2048]⟩
abbrev S1 : Shape := ⟨1, ![1]⟩
abbrev S4096x256 : Shape := ⟨2, ![4096, 256]⟩
abbrev S2x4096x256 : Shape := ⟨3, ![2, 4096, 256]⟩
abbrev S8x512x256 : Shape := ⟨3, ![8, 512, 256]⟩
abbrev S2 : Shape := ⟨1, ![2]⟩
abbrev S8 : Shape := ⟨1, ![8]⟩
abbrev S_ : Shape := ⟨0, ![]⟩
abbrev S1x4096x256 : Shape := ⟨3, ![1, 4096, 256]⟩
abbrev S512x256 : Shape := ⟨2, ![512, 256]⟩
abbrev S1x512x256 : Shape := ⟨3, ![1, 512, 256]⟩

abbrev nBuf : Space → Nat
  | .hbm => 5
  | .vmem => 6
  | .smem => 2
  | _ => 0

abbrev bufTy : (tb : Table) → Fin (tcTables nBuf tb) → BufTy
  | .hbm, ⟨0, _⟩ => ⟨S512x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S512x4096, .f32⟩
  | .local _ .vmem, ⟨1, _⟩ => ⟨S4096x256, .f32⟩
  | .local _ .vmem, ⟨2, _⟩ => ⟨S512x4096, .fp8e5m2⟩
  | .local _ .vmem, ⟨3, _⟩ => ⟨S2x4096x256, .f32⟩
  | .local _ .vmem, ⟨4, _⟩ => ⟨S8x512x256, .bf16⟩
  | .local _ .vmem, ⟨5, _⟩ => ⟨S8x512x256, .bf16⟩
  | .local _ .smem, ⟨0, _⟩ => ⟨S1, .f32⟩
  | .local _ .smem, ⟨1, _⟩ => ⟨S1, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c0_i32_69 : BitVec 32) : Fin 2 → Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v104 : BitVec 32 := Scalar.addi v2 c0_i32_69
  let c8_i32_70 : BitVec 32 := 8#32
  let c0_i32_71 : BitVec 32 := 0#32
  let v105 : BitVec 1 := Scalar.cmpi .eq c8_i32_70 c0_i32_71
  let c1_i32_72 : BitVec 32 := 1#32
  let v106 : BitVec 32 := Scalar.select v105 c1_i32_72 c8_i32_70
  let v107 : BitVec 32 := Scalar.remsi v104 v106
  let c0_i32_74 : BitVec 32 := 0#32
  let v109 : BitVec 1 := Scalar.cmpi .slt v107 c0_i32_74
  let c0_i32_75 : BitVec 32 := 0#32
  let v110 : BitVec 1 := Scalar.cmpi .slt v106 c0_i32_75
  let v111 : BitVec 1 := Scalar.xori v109 v110
  let c0_i32_73 : BitVec 32 := 0#32
  let v108 : BitVec 1 := Scalar.cmpi .ne v107 c0_i32_73
  let v112 : BitVec 1 := Scalar.andi v111 v108
  let v113 : BitVec 32 := Scalar.addi v107 v106
  let v114 : BitVec 32 := Scalar.select v112 v113 v107
  let c256_i32 : BitVec 32 := 256#32
  let v115 : BitVec 32 := Scalar.muli v114 c256_i32
  ![0, v115.toNat]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v172 : BitVec 32 := Scalar.muli v2 c512_i32
  let v173 : Index := Scalar.indexCast v172
  let c0_116 : Index := 0#32
  ![v173.toNat, 0]
def k0_dev8 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_117 : BitVec 32 := 1#32
  let v175 : BitVec 32 := Scalar.addi v2 c1_i32_117
  let c8_i32_118 : BitVec 32 := 8#32
  let c0_i32_119 : BitVec 32 := 0#32
  let v176 : BitVec 1 := Scalar.cmpi .eq c8_i32_118 c0_i32_119
  let c1_i32_120 : BitVec 32 := 1#32
  let v177 : BitVec 32 := Scalar.select v176 c1_i32_120 c8_i32_118
  let v178 : BitVec 32 := Scalar.remsi v175 v177
  let c0_i32_122 : BitVec 32 := 0#32
  let v180 : BitVec 1 := Scalar.cmpi .slt v178 c0_i32_122
  let c0_i32_123 : BitVec 32 := 0#32
  let v181 : BitVec 1 := Scalar.cmpi .slt v177 c0_i32_123
  let v182 : BitVec 1 := Scalar.xori v180 v181
  let c0_i32_121 : BitVec 32 := 0#32
  let v179 : BitVec 1 := Scalar.cmpi .ne v178 c0_i32_121
  let v183 : BitVec 1 := Scalar.andi v182 v179
  let v184 : BitVec 32 := Scalar.addi v178 v177
  let v185 : BitVec 32 := Scalar.select v183 v184 v178
  let c1_i32_166 : BitVec 32 := 1#32
  let v241 : BitVec 32 := Scalar.muli v185 c1_i32_166
  let v242 : BitVec 32 := Scalar.addi c0_i32_167 v241
  v242.toNat
def k0_dev9 (d0 : Dev nD) : Nat :=
  let c0_i32_222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_172 : BitVec 32 := 2#32
  let v251 : BitVec 32 := Scalar.addi v2 c2_i32_172
  let c8_i32_173 : BitVec 32 := 8#32
  let c0_i32_174 : BitVec 32 := 0#32
  let v252 : BitVec 1 := Scalar.cmpi .eq c8_i32_173 c0_i32_174
  let c1_i32_175 : BitVec 32 := 1#32
  let v253 : BitVec 32 := Scalar.select v252 c1_i32_175 c8_i32_173
  let v254 : BitVec 32 := Scalar.remsi v251 v253
  let c0_i32_177 : BitVec 32 := 0#32
  let v256 : BitVec 1 := Scalar.cmpi .slt v254 c0_i32_177
  let c0_i32_178 : BitVec 32 := 0#32
  let v257 : BitVec 1 := Scalar.cmpi .slt v253 c0_i32_178
  let v258 : BitVec 1 := Scalar.xori v256 v257
  let c0_i32_176 : BitVec 32 := 0#32
  let v255 : BitVec 1 := Scalar.cmpi .ne v254 c0_i32_176
  let v259 : BitVec 1 := Scalar.andi v258 v255
  let v260 : BitVec 32 := Scalar.addi v254 v253
  let v261 : BitVec 32 := Scalar.select v259 v260 v254
  let c1_i32_221 : BitVec 32 := 1#32
  let v317 : BitVec 32 := Scalar.muli v261 c1_i32_221
  let v318 : BitVec 32 := Scalar.addi c0_i32_222 v317
  v318.toNat
def k0_dev10 (d0 : Dev nD) : Nat :=
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_227 : BitVec 32 := 3#32
  let v327 : BitVec 32 := Scalar.addi v2 c3_i32_227
  let c8_i32_228 : BitVec 32 := 8#32
  let c0_i32_229 : BitVec 32 := 0#32
  let v328 : BitVec 1 := Scalar.cmpi .eq c8_i32_228 c0_i32_229
  let c1_i32_230 : BitVec 32 := 1#32
  let v329 : BitVec 32 := Scalar.select v328 c1_i32_230 c8_i32_228
  let v330 : BitVec 32 := Scalar.remsi v327 v329
  let c0_i32_232 : BitVec 32 := 0#32
  let v332 : BitVec 1 := Scalar.cmpi .slt v330 c0_i32_232
  let c0_i32_233 : BitVec 32 := 0#32
  let v333 : BitVec 1 := Scalar.cmpi .slt v329 c0_i32_233
  let v334 : BitVec 1 := Scalar.xori v332 v333
  let c0_i32_231 : BitVec 32 := 0#32
  let v331 : BitVec 1 := Scalar.cmpi .ne v330 c0_i32_231
  let v335 : BitVec 1 := Scalar.andi v334 v331
  let v336 : BitVec 32 := Scalar.addi v330 v329
  let v337 : BitVec 32 := Scalar.select v335 v336 v330
  let c1_i32_276 : BitVec 32 := 1#32
  let v393 : BitVec 32 := Scalar.muli v337 c1_i32_276
  let v394 : BitVec 32 := Scalar.addi c0_i32_277 v393
  v394.toNat
def k0_dev11 (d0 : Dev nD) : Nat :=
  let c0_i32_332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_282 : BitVec 32 := 4#32
  let v403 : BitVec 32 := Scalar.addi v2 c4_i32_282
  let c8_i32_283 : BitVec 32 := 8#32
  let c0_i32_284 : BitVec 32 := 0#32
  let v404 : BitVec 1 := Scalar.cmpi .eq c8_i32_283 c0_i32_284
  let c1_i32_285 : BitVec 32 := 1#32
  let v405 : BitVec 32 := Scalar.select v404 c1_i32_285 c8_i32_283
  let v406 : BitVec 32 := Scalar.remsi v403 v405
  let c0_i32_287 : BitVec 32 := 0#32
  let v408 : BitVec 1 := Scalar.cmpi .slt v406 c0_i32_287
  let c0_i32_288 : BitVec 32 := 0#32
  let v409 : BitVec 1 := Scalar.cmpi .slt v405 c0_i32_288
  let v410 : BitVec 1 := Scalar.xori v408 v409
  let c0_i32_286 : BitVec 32 := 0#32
  let v407 : BitVec 1 := Scalar.cmpi .ne v406 c0_i32_286
  let v411 : BitVec 1 := Scalar.andi v410 v407
  let v412 : BitVec 32 := Scalar.addi v406 v405
  let v413 : BitVec 32 := Scalar.select v411 v412 v406
  let c1_i32_331 : BitVec 32 := 1#32
  let v469 : BitVec 32 := Scalar.muli v413 c1_i32_331
  let v470 : BitVec 32 := Scalar.addi c0_i32_332 v469
  v470.toNat
def k0_dev12 (d0 : Dev nD) : Nat :=
  let c0_i32_387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_337 : BitVec 32 := 5#32
  let v479 : BitVec 32 := Scalar.addi v2 c5_i32_337
  let c8_i32_338 : BitVec 32 := 8#32
  let c0_i32_339 : BitVec 32 := 0#32
  let v480 : BitVec 1 := Scalar.cmpi .eq c8_i32_338 c0_i32_339
  let c1_i32_340 : BitVec 32 := 1#32
  let v481 : BitVec 32 := Scalar.select v480 c1_i32_340 c8_i32_338
  let v482 : BitVec 32 := Scalar.remsi v479 v481
  let c0_i32_342 : BitVec 32 := 0#32
  let v484 : BitVec 1 := Scalar.cmpi .slt v482 c0_i32_342
  let c0_i32_343 : BitVec 32 := 0#32
  let v485 : BitVec 1 := Scalar.cmpi .slt v481 c0_i32_343
  let v486 : BitVec 1 := Scalar.xori v484 v485
  let c0_i32_341 : BitVec 32 := 0#32
  let v483 : BitVec 1 := Scalar.cmpi .ne v482 c0_i32_341
  let v487 : BitVec 1 := Scalar.andi v486 v483
  let v488 : BitVec 32 := Scalar.addi v482 v481
  let v489 : BitVec 32 := Scalar.select v487 v488 v482
  let c1_i32_386 : BitVec 32 := 1#32
  let v545 : BitVec 32 := Scalar.muli v489 c1_i32_386
  let v546 : BitVec 32 := Scalar.addi c0_i32_387 v545
  v546.toNat
def k0_dev13 (d0 : Dev nD) : Nat :=
  let c0_i32_442 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_392 : BitVec 32 := 6#32
  let v555 : BitVec 32 := Scalar.addi v2 c6_i32_392
  let c8_i32_393 : BitVec 32 := 8#32
  let c0_i32_394 : BitVec 32 := 0#32
  let v556 : BitVec 1 := Scalar.cmpi .eq c8_i32_393 c0_i32_394
  let c1_i32_395 : BitVec 32 := 1#32
  let v557 : BitVec 32 := Scalar.select v556 c1_i32_395 c8_i32_393
  let v558 : BitVec 32 := Scalar.remsi v555 v557
  let c0_i32_397 : BitVec 32 := 0#32
  let v560 : BitVec 1 := Scalar.cmpi .slt v558 c0_i32_397
  let c0_i32_398 : BitVec 32 := 0#32
  let v561 : BitVec 1 := Scalar.cmpi .slt v557 c0_i32_398
  let v562 : BitVec 1 := Scalar.xori v560 v561
  let c0_i32_396 : BitVec 32 := 0#32
  let v559 : BitVec 1 := Scalar.cmpi .ne v558 c0_i32_396
  let v563 : BitVec 1 := Scalar.andi v562 v559
  let v564 : BitVec 32 := Scalar.addi v558 v557
  let v565 : BitVec 32 := Scalar.select v563 v564 v558
  let c1_i32_441 : BitVec 32 := 1#32
  let v621 : BitVec 32 := Scalar.muli v565 c1_i32_441
  let v622 : BitVec 32 := Scalar.addi c0_i32_442 v621
  v622.toNat
def k0_dev14 (d0 : Dev nD) : Nat :=
  let c0_i32_484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_447 : BitVec 32 := 7#32
  let v631 : BitVec 32 := Scalar.addi v2 c7_i32_447
  let c8_i32_448 : BitVec 32 := 8#32
  let c0_i32_449 : BitVec 32 := 0#32
  let v632 : BitVec 1 := Scalar.cmpi .eq c8_i32_448 c0_i32_449
  let c1_i32_450 : BitVec 32 := 1#32
  let v633 : BitVec 32 := Scalar.select v632 c1_i32_450 c8_i32_448
  let v634 : BitVec 32 := Scalar.remsi v631 v633
  let c0_i32_452 : BitVec 32 := 0#32
  let v636 : BitVec 1 := Scalar.cmpi .slt v634 c0_i32_452
  let c0_i32_453 : BitVec 32 := 0#32
  let v637 : BitVec 1 := Scalar.cmpi .slt v633 c0_i32_453
  let v638 : BitVec 1 := Scalar.xori v636 v637
  let c0_i32_451 : BitVec 32 := 0#32
  let v635 : BitVec 1 := Scalar.cmpi .ne v634 c0_i32_451
  let v639 : BitVec 1 := Scalar.andi v638 v635
  let v640 : BitVec 32 := Scalar.addi v634 v633
  let v641 : BitVec 32 := Scalar.select v639 v640 v634
  let c1_i32_483 : BitVec 32 := 1#32
  let v680 : BitVec 32 := Scalar.muli v641 c1_i32_483
  let v681 : BitVec 32 := Scalar.addi c0_i32_484 v680
  v681.toNat
def k0_off3 (d0 : Dev nD) (c1_i32_489 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v690 : BitVec 32 := Scalar.subi v2 c1_i32_489
  let c8_i32_490 : BitVec 32 := 8#32
  let c0_i32_491 : BitVec 32 := 0#32
  let v691 : BitVec 1 := Scalar.cmpi .eq c8_i32_490 c0_i32_491
  let c1_i32_492 : BitVec 32 := 1#32
  let v692 : BitVec 32 := Scalar.select v691 c1_i32_492 c8_i32_490
  let v693 : BitVec 32 := Scalar.remsi v690 v692
  let c0_i32_494 : BitVec 32 := 0#32
  let v695 : BitVec 1 := Scalar.cmpi .slt v693 c0_i32_494
  let c0_i32_495 : BitVec 32 := 0#32
  let v696 : BitVec 1 := Scalar.cmpi .slt v692 c0_i32_495
  let v697 : BitVec 1 := Scalar.xori v695 v696
  let c0_i32_493 : BitVec 32 := 0#32
  let v694 : BitVec 1 := Scalar.cmpi .ne v693 c0_i32_493
  let v698 : BitVec 1 := Scalar.andi v697 v694
  let v699 : BitVec 32 := Scalar.addi v693 v692
  let v700 : BitVec 32 := Scalar.select v698 v699 v693
  let c512_i32_509 : BitVec 32 := 512#32
  let v712 : BitVec 32 := Scalar.muli v700 c512_i32_509
  let v713 : Index := Scalar.indexCast v712
  let c0_510 : Index := 0#32
  ![v713.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.Protocol.lean ====
/-
# The exchange's protocol

Eight devices exchange blocks all-to-all. For every offset `e + 1` (`e : Fin 7`) device `c` sends one block to
the device `e + 1` places after it, into slab `e + 1` of that device's landing buffer. Three families of cells
are shared between devices, every one with a single round:

* `barCell c` — the barrier semaphore. Duty `e` is paid by device `shift e c` with one unit and hands `c` the landing
  slab `e + 1` of THAT device, into which `c`'s transfer of offset `e + 1` goes, and the fact that its receive cell is
  at round 0. Device `c` waits for the seven units before it sends anything.
* `recvCell c e` — the receive semaphore of slab `e + 1`, credited by the transfer of device `back e c`; it hands `c`
  that slab holding the block `chunk (back e c) c`.
* `sendCell c e` — the send semaphore of slab `e + 1`, credited when the sender's slab has been read; it hands the
  slab back.

The double buffer of weight columns stays inside a device: its two semaphores, and the unused first send and receive
semaphores, are held by the device at zero throughout.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging pipeline's copy, the exchange's (a duty per offset), and the counters the
local copies of the weight columns draw their tokens from -/

abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB (MT nD τ sig Unit (Elt F) ℕ UU ℕ)).LandsIn (upEmb : UEmb _ (MT nD τ sig Unit (Elt F) ℕ UU ℕ)) := by
  unfold ER; infer_instance

/-- No loop or call is given a variant of its own. -/
abbrev 𝒱₀ : Variants := Variants.none

variable (m : (ℓ : Loc nD τ sig) → Buf (Elt F) ℓ)

/-! ## The devices -/

set_option backward.proofsInPublic true in
/-- The device `e + 1` places after `c`, -/
def shift (e : Fin 7) (c : Dev nD) : Dev nD := ⟨(c.val + e.val + 1) % 8, Nat.mod_lt _ (by decide)⟩
set_option backward.proofsInPublic true in
/-- and the one `e + 1` places before it. -/
def back (e : Fin 7) (c : Dev nD) : Dev nD := ⟨(c.val + (7 - e.val)) % 8, Nat.mod_lt _ (by decide)⟩

theorem back_shift : ∀ (e : Fin 7) (c : Dev nD), back e (shift e c) = c := by decide +kernel
theorem shift_back : ∀ (e : Fin 7) (c : Dev nD), shift e (back e c) = c := by decide +kernel
theorem shift_rev : ∀ (e : Fin 7) (c : Dev nD), shift e.rev (shift e c) = c := by decide +kernel
theorem back_eq_shift_rev : ∀ (e : Fin 7) (c : Dev nD), back e c = shift e.rev c := by decide +kernel
/-- Every device is `c` itself or comes before it by one offset. -/
theorem dev_cases : ∀ c k : Dev nD, k = c ∨ ∃ e, k = back e c := by decide +kernel
theorem back_ne : ∀ (e : Fin 7) (c : Dev nD), back e c ≠ c := by decide +kernel
theorem back_inj : ∀ (c : Dev nD) (e e' : Fin 7), back e c = back e' c → e = e' := by decide +kernel

/-- The shift by one offset, as a permutation of the devices. -/
def rot (e : Fin 7) : Dev nD ≃ Dev nD := ⟨shift e, back e, back_shift e, shift_back e⟩

/-! ## The cells -/

abbrev barS : Sem sig := (SemArray.scalar (sig.barrier 0 rfl) : Sems sig S_).sem
/-- The send and receive semaphore of offset `e + 1`, and the two of the weight double buffer. -/
abbrev sendQ (e : Fin 7) : DmaSem sig := ⟨7 + e.val, by have := e.isLt; show _ < 22; omega⟩
abbrev recvQ (e : Fin 7) : DmaSem sig := ⟨15 + e.val, by have := e.isLt; show _ < 22; omega⟩

abbrev barCell (c : Dev nD) : GSem nD τ sig := ((c : Thread nD τ), .reg barS)
abbrev sendCell (c : Dev nD) (e : Fin 7) : GSem nD τ sig := ((c : Thread nD τ), .dma (sendQ e))
abbrev recvCell (c : Dev nD) (e : Fin 7) : GSem nD τ sig := ((c : Thread nD τ), .dma (recvQ e))

/-- The shared cells of a device: the barrier, the seven send and the seven receive semaphores. -/
abbrev Own : Type := Unit ⊕ (Fin 7 ⊕ Fin 7)
abbrev csem : Own → SemLoc sig := Sum.elim (fun _ => .reg barS) (Sum.elim (fun e => .dma (sendQ e)) (fun e => .dma (recvQ e)))
abbrev kcell (ck : Dev nD × Own) : GSem nD τ sig := ((ck.1 : Thread nD τ), csem ck.2)

/-! ## The slabs of the outgoing and of the landing buffer -/

theorem slab_inb (k : Fin 8) : ∀ a, (![k.val, 0, 0] : Fin 3 → Nat) a + S1x512x256.size a ≤ S8x512x256.size a := by
  revert k; decide

/-- Slab `k`: its rectangle in a buffer of eight blocks, -/
abbrev slabR (k : Fin 8) : Rect S8x512x256 := Rect.unit (s := S8x512x256) ![k.val, 0, 0] S1x512x256.size (slab_inb k)

abbrev cM : Memref sig .tc .vmem S8x512x256 .bf16 := Memref.whole cc0_scratch2
abbrev rM : Memref sig .tc .vmem S8x512x256 .bf16 := Memref.whole cc0_scratch3

/-- the slab as the transfers name it. -/
abbrev sendM (e : Fin 7) : Memref sig .tc .vmem S512x256 .bf16 :=
  (cM.slice (slabR e.succ) (fun _ => rfl)).squeeze S512x256 squeezes_S1x512x256_S512x256
abbrev recvM (e : Fin 7) : Memref sig .tc .vmem S512x256 .bf16 :=
  (rM.slice (slabR e.succ) (fun _ => rfl)).squeeze S512x256 squeezes_S1x512x256_S512x256

/-- A block's transfer, in units. -/
abbrev N : ℕ := (recvM 0).view.dmaCredit
theorem N_pos : 0 < N := View.dmaCredit_pos _ (by decide)

/-- The elements of slab `k` of the outgoing and of the landing buffer. -/
abbrev outSet (k : Fin 8) := cM.view.setOn (slabR k).set
abbrev inSet (k : Fin 8) := rM.view.setOn (slabR k).set

theorem sendM_set (e : Fin 7) : (sendM e).view.set = outSet e.succ := by
  rw [Memref.set_view_squeeze]; exact View.set_slice _ _
theorem recvM_set (e : Fin 7) : (recvM e).view.set = inSet e.succ := by
  rw [Memref.set_view_squeeze]; exact View.set_slice _ _

/-- Device `c` holds slab `k` of its outgoing buffer at `f`, -/
abbrev outSlab (c : Dev nD) (k : Fin 8) (f : Buf (Elt F) (cM.view.loc (c : Thread nD τ))) : sProp 𝕄 :=
  cM.view.loc (c : Thread nD τ) ↦[outSet k]{fullShare} f
/-- and slab `k` of its landing buffer. -/
abbrev inSlab (c : Dev nD) (k : Fin 8) (f : Buf (Elt F) (rM.view.loc (c : Thread nD τ))) : sProp 𝕄 :=
  rM.view.loc (c : Thread nD τ) ↦[inSet k]{fullShare} f

theorem slab_disjoint (k k' : Fin 8) (h : k ≠ k') : Disjoint (slabR k).set (slabR k').set :=
  Ring.lead_disjoint (s := S8x512x256) (R := 1) (NB := 8) (a₀ := (0 : Fin 3)) (off := fun b : Fin 8 => ![b.val, 0, 0])
    (size := S1x512x256.size) (inb := slab_inb) (fun b => by simp) rfl k k' h

theorem slab_cover : Finset.univ.biUnion (fun k : Fin 8 => (slabR k).set) = Finset.univ :=
  Ring.lead_cover (s := S8x512x256) (R := 1) (NB := 8) (a₀ := (0 : Fin 3)) (off := fun b : Fin 8 => ![b.val, 0, 0])
    (size := S1x512x256.size) (inb := slab_inb) (fun b => by simp) (fun b a ha => by fin_cases a <;> first | rfl | exact absurd rfl ha)
    rfl (fun a ha => by fin_cases a <;> first | rfl | exact absurd rfl ha) rfl

/-! ## What the devices compute -/

/-- Device `c`'s rows of `x`, -/
def xOf (c : Dev nD) : Vec F S512x4096 .f32 := fun i => m ((c : Thread nD τ).loc main_arg0) i
/-- the one place of a scale, -/
def at0 : S1.Idx := Shape.Idx.first (by decide)
/-- the product of the two scales as `c` reads them, -/
def scaleOf (c : Dev nD) : F .f32 :=
  k0_pay1 (m ((c : Thread nD τ).loc main_arg2) at0) (m ((c : Thread nD τ).loc main_arg3) at0)
/-- columns `256 k …` of its weights, as one slot of the double buffer, -/
def colsOf (c k : Dev nD) : Vec F S1x4096x256 .f32 := fun i =>
  m ((c : Thread nD τ).loc main_arg1) (Fin.cons (i 1) (Fin.cons ⟨256 * k.val + (i 2).val, by
    have h1 : k.val < 8 := k.isLt
    have h2 : (i 2).val < 256 := (i 2).isLt
    show _ < 2048; omega⟩ fun a => a.elim0))
/-- the block it sends to device `k`, -/
def chunkOf (c k : Dev nD) : FVec F S1x512x256 .bf16 := k0_pay8 (scaleOf m c) (k0_pay2 (xOf m c)) (colsOf m c k)
/-- and the one it keeps. -/
def keptOf (c : Dev nD) : FVec F S512x256 .f32 := k0_pay4 (k0_pay3 (scaleOf m c) (k0_pay2 (xOf m c)) (colsOf m c c))

/-- The block device `c` puts in rows `512 k …` of its result: its own, or the one it received from `k`. -/
def blockOf (c k : Dev nD) : FVec F S512x256 .f32 := if k = c then keptOf m c else k0_pay18 (chunkOf m k c)

/-- Device `c`'s result. -/
def resultOf (c : Dev nD) : Vec F S4096x256 .f32 := fun i =>
  blockOf m c ⟨(i 0).val / 512, by have h : (i 0).val < 4096 := (i 0).isLt; show _ < 8; omega⟩
    (Fin.cons ⟨(i 0).val % 512, Nat.mod_lt _ (by decide)⟩ (Fin.cons (i 1) fun a => a.elim0))

/-! ## The schedule -/

/-- What device `shift e c`'s signal hands `c`: that device's landing slab of `c`'s offset, and that its receive cell
    is at round 0. -/
def barPay (c : Dev nD) (e : Fin 7) : sProp 𝕄 :=
  iprop((∃ f, inSlab (shift e c) e.succ f) ∗ reached ER (recvCell (shift e c) e) 0)
/-- The landing slab, holding the block the sender computed. -/
def recvPay (c : Dev nD) (e : Fin 7) : sProp 𝕄 :=
  iprop(∃ f, ⌜rM.view.readAt (Elt F) (slabR e.succ).toLoadRect f = chunkOf m (back e c) c⌝ ∗ inSlab c e.succ f)
/-- The outgoing slab back. -/
def sendPay (c : Dev nD) (e : Fin 7) : sProp 𝕄 := iprop(∃ f, outSlab c e.succ f)

abbrev IsBar (g : GSem nD τ sig) : Prop := g.1.2 = .tc ∧ g.2 = .reg barS
abbrev IsXfer (g : GSem nD τ sig) : Prop := g.1.2 = .tc ∧ ∃ e, (g.2 = .dma (sendQ e) ∨ g.2 = .dma (recvQ e))

/-- The offset of a send or receive semaphore. -/
def offOf (s : SemLoc sig) (base : Nat) : Fin 7 := match s with
  | .dma q => ⟨(q.val - base) % 7, Nat.mod_lt _ (by decide)⟩
  | .reg _ => 0

open Classical in
/-- One round: seven duties on a barrier cell, one unit each; one duty on a send or receive cell, a block's credit. -/
def rd : Rounds.Schedule (GSem nD τ sig) (Fin 7) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if g.2 = .dma (recvQ (offOf g.2 15)) then recvPay m g.1.1 (offOf g.2 15)
    else if g.2 = .dma (sendQ (offOf g.2 7)) then sendPay g.1.1 (offOf g.2 7)
    else iprop(emp)
  amount_pos g _ _ _ := by
    by_cases h : g.2 = .reg barS
    · rw [if_pos h]; exact Nat.one_pos
    · rw [if_neg h]; exact N_pos

instance rd_payload_storable (g : GSem nD τ sig) (r : ℕ) (d : Fin 7) :
    BI.Storable (upEmb : UEmb _ 𝕄) ((rd (F := F) m).payload g r d) := by
  dsimp only [rd]
  unfold barPay recvPay sendPay
  (repeat' split) <;> infer_instance

theorem dma_ne_bar (q : DmaSem sig) : (SemLoc.dma q : SemLoc sig) ≠ .reg barS := fun h => by cases h
theorem send_ne_recv : ∀ e e' : Fin 7, (SemLoc.dma (sendQ e) : SemLoc sig) ≠ .dma (recvQ e') := by decide
theorem sendQ_inj : ∀ e e' : Fin 7, (SemLoc.dma (sendQ e) : SemLoc sig) = .dma (sendQ e') → e = e' := by decide
theorem recvQ_inj : ∀ e e' : Fin 7, (SemLoc.dma (recvQ e) : SemLoc sig) = .dma (recvQ e') → e = e' := by decide
theorem offOf_send : ∀ e : Fin 7, offOf (SemLoc.dma (sendQ e)) 7 = e := by decide
theorem offOf_recv : ∀ e : Fin 7, offOf (SemLoc.dma (recvQ e)) 15 = e := by decide

section Tables
variable (c : Dev nD) (e d : Fin 7)

theorem duties_bar : (rd (F := F) m).duties (barCell c) 0 = Finset.univ := by
  dsimp only [rd]; exact if_pos ⟨rfl, rfl, rfl⟩
theorem duties_send : (rd (F := F) m).duties (sendCell c e) 0 = {0} := by
  dsimp only [rd]; rw [if_neg (fun h => dma_ne_bar _ h.2.2)]; exact if_pos ⟨rfl, rfl, e, .inl rfl⟩
theorem duties_recv : (rd (F := F) m).duties (recvCell c e) 0 = {0} := by
  dsimp only [rd]; rw [if_neg (fun h => dma_ne_bar _ h.2.2)]; exact if_pos ⟨rfl, rfl, e, .inr rfl⟩
theorem duties_later (g : GSem nD τ sig) : ∀ r, 1 ≤ r → (rd (F := F) m).duties g r = ∅ :=
  fun r hr => by dsimp only [rd]; rw [if_neg fun h => by omega, if_neg fun h => by omega]

theorem amount_bar : (rd (F := F) m).amount (barCell c) 0 d = 1 := by dsimp only [rd]; exact if_pos rfl
theorem amount_dma (q : DmaSem sig) : (rd (F := F) m).amount ((c : Thread nD τ), .dma q) 0 d = N := by
  dsimp only [rd]; exact if_neg (dma_ne_bar q)

theorem expect_bar : (rd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (rd (F := F) m).expect (sendCell c e) 0 = N := by
  unfold Schedule.expect Schedule.amountOf; rw [duties_send, Finset.sum_singleton, amount_dma]
theorem expect_recv : (rd (F := F) m).expect (recvCell c e) 0 = N := by
  unfold Schedule.expect Schedule.amountOf; rw [duties_recv, Finset.sum_singleton, amount_dma]

theorem payload_bar : (rd (F := F) m).payload (barCell c) 0 d = barPay c d := by dsimp only [rd]; rw [if_pos rfl]
theorem payload_send : (rd (F := F) m).payload (sendCell c e) 0 d = sendPay c e := by
  dsimp only [rd]; rw [if_neg (dma_ne_bar _), if_neg (send_ne_recv _ _), offOf_send, if_pos rfl]
theorem payload_recv : (rd (F := F) m).payload (recvCell c e) 0 d = recvPay m c e := by
  dsimp only [rd]; rw [if_neg (dma_ne_bar _), offOf_recv, if_pos rfl]

/-- The whole round of a cell, as its waiter receives it. -/
theorem rest_bar : bigSep ((rd (F := F) m).duties (barCell c) 0 \ ∅) (fun d => (rd (F := F) m).payload (barCell c) 0 d)
    = bigSep Finset.univ fun e => barPay c e := by
  rw [Finset.sdiff_empty, duties_bar]; exact bigSep_congr fun d _ => payload_bar m c d
theorem rest_send : bigSep ((rd (F := F) m).duties (sendCell c e) 0 \ ∅) (fun d => (rd (F := F) m).payload (sendCell c e) 0 d) = sendPay c e := by
  rw [Finset.sdiff_empty, duties_send, bigSep_singleton, payload_send]
theorem rest_recv : bigSep ((rd (F := F) m).duties (recvCell c e) 0 \ ∅) (fun d => (rd (F := F) m).payload (recvCell c e) 0 d) = recvPay m c e := by
  rw [Finset.sdiff_empty, duties_recv, bigSep_singleton, payload_recv]

end Tables

/-! ## What a device owes at launch; the levels -/

/-- The offset paid when `n + 1` payments are left of seven. -/
abbrev nth (n : ℕ) : Fin 7 := ⟨6 - n, by omega⟩

/-- The receive credits `c` still owes with `n` transfers to go, -/
def owedR (c : Dev nD) : ℕ → CellTallies nD τ sig Unit
  | 0 => 0
  | n + 1 => owedR c n + tallyAt (recvCell (shift (nth n) c) (nth n)) () N
/-- and all it owes with `n` signals to go. -/
def owedB (c : Dev nD) : ℕ → CellTallies nD τ sig Unit
  | 0 => owedR c 7
  | n + 1 => owedB c n + tallyAt (barCell (shift (nth n) c)) () 1

def O₀ (c : Dev nD) : CellTallies nD τ sig Unit := owedB c 7

def L (g : GSem nD τ sig) : Finset Unit := if g.1.2 = .tc then {()} else ∅
/-- Barrier cells at 1, receive cells at 2, everything else at 0. -/
def lv (g : GSem nD τ sig) (_ : Unit) : ℕ := match g.2 with
  | .reg _ => 1
  | .dma q => if 15 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem tallyAt_pos {g g' : GSem nD τ sig} {u u' : Unit} {k : ℕ} (h : 0 < (tallyAt g u k : CellTallies nD τ sig Unit) g' u') : g' = g := by
  rw [tallyAt_apply] at h
  by_contra hn
  rw [if_neg (fun h' => hn h'.1)] at h
  exact Nat.lt_irrefl 0 h

theorem owedR_pos {c : Dev nD} {g : GSem nD τ sig} {u : Unit} : ∀ n, 0 < owedR c n g u → ∃ c' e, g = recvCell c' e
  | 0, h => absurd h (Nat.lt_irrefl 0)
  | n + 1, h => by
    rw [owedR, Pi.add_apply, Finsupp.add_apply] at h
    rcases Nat.eq_zero_or_pos (owedR c n g u) with h0 | h0
    · rw [h0, Nat.zero_add] at h; exact ⟨_, _, tallyAt_pos h⟩
    · exact owedR_pos n h0

theorem owedB_pos {c : Dev nD} {g : GSem nD τ sig} {u : Unit} : ∀ n, 0 < owedB c n g u → (∃ c' e, g = recvCell c' e) ∨ ∃ c', g = barCell c'
  | 0, h => .inl (owedR_pos 7 h)
  | n + 1, h => by
    rw [owedB, Pi.add_apply, Finsupp.add_apply] at h
    rcases Nat.eq_zero_or_pos (owedB c n g u) with h0 | h0
    · rw [h0, Nat.zero_add] at h; exact .inr ⟨_, tallyAt_pos h⟩
    · exact owedB_pos n h0

theorem lv_recv (c : Dev nD) (e : Fin 7) (u : Unit) : lv (recvCell c e) u = 2 := by
  dsimp only [lv]; exact if_pos (Nat.le_add_right _ _)
theorem lv_low (c : Dev nD) (q : DmaSem sig) (hq : q.val < 15) (u : Unit) : lv ((c : Thread nD τ), .dma q) u = 0 := by
  dsimp only [lv]; exact if_neg (Nat.not_le.mpr hq)

omit [FloatOps F] in
/-- A wait on a staging, double-buffer or send semaphore, whatever of the launch debt is left. -/
theorem mayWait_low (c : Dev nD) (q : DmaSem sig) (hq : q.val < 15) (O : CellTallies nD τ sig Unit)
    (hO : ∀ g u, 0 < O g u → (∃ c' e, g = recvCell c' e) ∨ ∃ c', g = barCell c') :
    (levAts L lv : sProp 𝕄) ⊢ MayWait (c : Thread nD τ) (.dma q) () O :=
  MayOwe.of_cut (L := L) (lev := lv) 0 (fun p hp => by rw [Finset.mem_singleton.mp hp, L_tc]; exact Finset.mem_singleton_self _)
    (fun g u hg => by rcases hO g u hg with ⟨c', e, rfl⟩ | ⟨c', rfl⟩ <;> exact Finset.mem_singleton_self _)
    (fun p hp => by rw [Finset.mem_singleton.mp hp, lv_low c q hq])
    (fun g u hg => by
      rcases hO g u hg with ⟨c', e, rfl⟩ | ⟨c', rfl⟩
      · rw [lv_recv]; decide
      · dsimp only [lv]; decide)

omit [FloatOps F] in
/-- The barrier wait, owing receive credits only. -/
theorem mayWait_bar (c : Dev nD) : (levAts L lv : sProp 𝕄) ⊢ MayWait (c : Thread nD τ) (.reg barS) () (owedR c 7) :=
  MayOwe.of_cut (L := L) (lev := lv) 1 (fun p hp => by rw [Finset.mem_singleton.mp hp, L_tc]; exact Finset.mem_singleton_self _)
    (fun g u hg => by obtain ⟨c', e, rfl⟩ := owedR_pos 7 hg; exact Finset.mem_singleton_self _)
    (fun p hp => by rw [Finset.mem_singleton.mp hp]; exact Nat.le_refl 1)
    (fun g u hg => by obtain ⟨c', e, rfl⟩ := owedR_pos 7 hg; rw [lv_recv]; decide)

end Cert.Exchange

end
-- ==== Proof.Value.lean ====
/-
# The kernel's result over the reals

Over the reals a cast between float formats is the identity, so a block a device keeps and a block it sends are the
same function of its rows, of a slab of its columns and of its scales. Read at an index, a device's result is the
reference's result at the index of its block of columns.
-/
module

public import proofs.«01_k».proof.Proof.Protocol
public import proofs.«01_k».proof.Proof.Gen.ReferenceIdeal.Run
public import Idealize.ShloMosaic.Lib.Pointwise
public import Idealize.ShloMosaic.Lib.Layout
public import Idealize.ShloMosaic.PureOps.Ideal.Laws

@[expose] public section

noncomputable section

namespace Cert.Exchange

open Idealize.ShloMosaic
open Idealize.ShloMosaic.TcCoe

/-- `y / (1 + exp (-y))`, the exponent clipped to `[-60, 60]` (the two words are `60` and `-60` as floats). -/
def silu (y : EReal) : EReal :=
  Ideal.div y (1 + Ideal.exp (-(min (Ideal.ofBits .f32 0x42700000#32) (max (Ideal.ofBits .f32 0xC2700000#32) y))))

/-- One element of the product: row `r` of `x` times column `l` of `w`, scaled, then `silu`. -/
def element (x : Fin 4096 → EReal) (w : Fin 4096 → EReal) (a b : EReal) : EReal := silu ((∑ t, x t * w t) * (a * b))

section Reference

open Cert.ReferenceIdeal Cert.ReferenceIdeal.Gen

/-- The reference's result as a function of its four arguments, as its run states it. -/
def wholeOf (x : FVec Ideal Cert.ReferenceIdeal.S4096x4096 .f32) (w : FVec Ideal Cert.ReferenceIdeal.S4096x2048 .f32)
    (a b : FVec Ideal Cert.ReferenceIdeal.S1 .f32) : FVec Ideal Cert.ReferenceIdeal.S4096x2048 .f32 :=
  Host.divf (mulf (Host.dotGeneral dot_S4096x4096_S4096x2048_S4096x2048_1_0_0_1_n_n none x w) (broadcastInDim S4096x2048 ![0, 1] bcast_S1x1_S4096x2048_0_1 (broadcastInDim S1x1 ![1] bcast_S1_S1x1_1 (mulf a b)))) (addf (broadcastInDim S4096x2048 ![] bcast_S_S4096x2048 (constant S_ .f32 0x3F800000#32)) (Host.exp (Host.negf (minimumf (broadcastInDim S4096x2048 ![] bcast_S_S4096x2048 (id (constant S_ .f32 0x42700000#32))) (maximumf (broadcastInDim S4096x2048 ![] bcast_S_S4096x2048 (id (constant S_ .f32 0xC2700000#32))) (mulf (Host.dotGeneral dot_S4096x4096_S4096x2048_S4096x2048_1_0_0_1_n_n none x w) (broadcastInDim S4096x2048 ![0, 1] bcast_S1x1_S4096x2048_0_1 (broadcastInDim S1x1 ![1] bcast_S1_S1x1_1 (mulf a b)))))))))

theorem whole_apply (x : FVec Ideal Cert.ReferenceIdeal.S4096x4096 .f32) (w : FVec Ideal Cert.ReferenceIdeal.S4096x2048 .f32)
    (a b : FVec Ideal Cert.ReferenceIdeal.S1 .f32) (i : Cert.ReferenceIdeal.S4096x2048.Idx) :
    wholeOf x w a b i = element (fun t => x (ix2 (i 0) t)) (fun t => w (ix2 t (i 1))) (a (ix1 0)) (b (ix1 0)) := by
  unfold wholeOf
  pointwise
  rfl

end Reference

section Kernel

open Cert.KernelIdeal Cert.KernelIdeal.Gen

variable (m : (ℓ : Loc nD τ sig) → Buf (Elt Ideal) ℓ)

theorem at0_eq : at0 = ix1 0 := funext fun a => Fin.ext (by fin_cases a; rfl)

/-- What device `k` computes at row `j 0` of its rows and column `j 1` of slab `c` of its columns. -/
def entryOf (k c : Dev nD) (j : S512x256.Idx) : EReal :=
  element (fun t => xOf m k (ix2 (j 0) t)) (fun t => colsOf m k c (ix3 0 t (j 1)))
    (m ((k : Thread nD τ).loc main_arg2) at0) (m ((k : Thread nD τ).loc main_arg3) at0)

theorem kept_apply (c : Dev nD) (j : S512x256.Idx) : keptOf m c j = entryOf m c c j := by
  unfold keptOf k0_pay4 k0_pay3 k0_pay2
  pointwise
  rw [sub_eq_add_neg, zero_add]
  rfl

/-- A block sent and widened again: the two casts change nothing. -/
theorem chunk_apply (k c : Dev nD) (j : S512x256.Idx) : k0_pay18 (chunkOf m k c) j = entryOf m k c j := by
  unfold k0_pay18 chunkOf k0_pay8 k0_pay2
  pointwise
  rw [sub_eq_add_neg, zero_add]
  rfl

/-- The block device `c` ends with from device `k`, kept or received. -/
theorem block_entry (c k : Dev nD) (j : S512x256.Idx) : blockOf m c k j = entryOf m k c j := by
  unfold blockOf
  by_cases h : k = c
  · subst h
    rw [if_pos rfl]
    exact kept_apply m k j
  · rw [if_neg h]
    exact chunk_apply m k c j

/-- Device `c`'s result is block `c` of the reference's columns, when every device's arguments are its parts of the
    reference's. -/
theorem result_block
    (x : FVec Ideal Cert.ReferenceIdeal.S4096x4096 .f32) (w : FVec Ideal Cert.ReferenceIdeal.S4096x2048 .f32)
    (a b : FVec Ideal Cert.ReferenceIdeal.S1 .f32)
    (hx : ∀ k : Dev nD, m ((k : Thread nD τ).loc main_arg0) = Layout.block ⟨2, ![512, 4096]⟩ ⟨2, ![4096, 4096]⟩ 0 8 k x)
    (hw : ∀ k : Dev nD, m ((k : Thread nD τ).loc main_arg1) = w) (ha : ∀ k : Dev nD, m ((k : Thread nD τ).loc main_arg2) = a)
    (hb : ∀ k : Dev nD, m ((k : Thread nD τ).loc main_arg3) = b) (c : Dev nD) :
    resultOf m c = Layout.block ⟨2, ![4096, 256]⟩ ⟨2, ![4096, 2048]⟩ 1 8 c (wholeOf x w a b) := by
  funext i
  unfold resultOf
  rw [block_entry, Layout.block_apply, whole_apply]
  unfold entryOf
  congr 1
  · funext t
    unfold xOf
    rw [hx, Layout.block_apply]
    refine congrArg x (funext fun a => Fin.ext ?_)
    fin_cases a
    · show (i 0).val / 512 * 512 + (i 0).val % 512 = (i 0).val
      exact Nat.div_add_mod' _ _
    · rfl
  · funext t
    unfold colsOf
    rw [hw]
    refine congrArg w (funext fun a => Fin.ext ?_)
    fin_cases a
    · rfl
    · show 256 * c.val + (i 1).val = c.val * 256 + (i 1).val
      rw [Nat.mul_comm]
  · rw [ha]; exact congrArg a at0_eq
  · rw [hb]; exact congrArg b at0_eq

end Kernel

end Cert.Exchange

end
-- ==== Proof.Steps.lean ====
/-
# The steps between devices

One rule per step that touches another device, at any offset: the signal, the barrier wait, the transfer, the waits
for its two ends. Each takes and gives the resources the protocol speaks of, bundled per offset.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Own → ℕ)

/-- What everybody knows: every shared cell's invariant, and that it is at its first round. -/
def known : sProp 𝕄 :=
  iprop((bigSep Finset.univ fun ck : Dev nD × Own => cellInv ER (rd m) (K ck) (kcell ck))
    ∗ bigSep Finset.univ fun ck : Dev nD × Own => reached ER (kcell ck) 0)

instance known_persistent : BI.Persistent (known (F := F) m K) := by unfold known; infer_instance

theorem known_at (ck : Dev nD × Own) : known m K ⊢ iprop(cellInv ER (rd m) (K ck) (kcell ck) ∗ reached ER (kcell ck) 0) := by
  unfold known
  exact BI.sep_mono (bigSep_elim (Finset.mem_univ ck)) (bigSep_elim (Finset.mem_univ ck))

/-- What the signal of offset `e + 1` spends: the right to pay that unit, and the landing slab it offers. -/
def signalRes (c : Dev nD) (e : Fin 7) : sProp 𝕄 :=
  iprop(dutyTok ER (barCell (shift e c)) 0 e.rev ∗ ∃ f, inSlab c e.rev.succ f)
/-- What the transfer of offset `e + 1` spends beside the slabs: the rights to credit its two ends. -/
def sendRes (c : Dev nD) (e : Fin 7) : sProp 𝕄 :=
  iprop(dutyTok ER (sendCell c e) 0 (0 : Fin 7) ∗ dutyTok ER (recvCell (shift e c) e) 0 (0 : Fin 7))
/-- The waits for slab `e + 1` and for the slab sent from: a place in the round and the units it waits for. -/
def recvRes (c : Dev nD) (e : Fin 7) : sProp 𝕄 :=
  iprop(atPos ER (recvCell c e) 0 ∅ 0 ∗ cred (tallyAt (recvCell c e) () N))
def backRes (c : Dev nD) (e : Fin 7) : sProp 𝕄 :=
  iprop(atPos ER (sendCell c e) 0 ∅ 0 ∗ cred (tallyAt (sendCell c e) () N))

/-- The signal to the device `e + 1` places after: it offers `c`'s landing slab to it. -/
theorem step_signal (c : Dev nD) (e : Fin 7) (n : ℕ) (he : e = nth n) (t : Dev nD) (ht : t = shift e c) {k' : ℕ} (hk : k' = 1) {α : Type} {Q : α → sProp 𝕄} {k : PUnit → Prog (TpuEff nD τ sig (Elt F) Λ₀ .tc) α}
    (W : Waits sig Unit) :
    iprop(known m K ∗ owes (c : Thread nD τ) (owedB c (n + 1)) W ∗ signalRes c e)
      ⊢ iprop((owes (c : Thread nD τ) (owedB c n) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (t : Thread nD τ) barS k') k) Q) := by
  subst hk; subst ht
  have hO : owedB c (n + 1) = owedB c n + tallyAt (barCell (shift e c)) () 1 := by subst he; rfl
  have hd : e.rev ∈ (rd (F := F) m).duties (barCell (shift e c)) 0 := by rw [duties_bar]; exact Finset.mem_univ _
  unfold signalRes
  iintro ⟨#Hkn, HO, Ht, ⟨%f, Hs⟩⟩ Hk
  ihave Hb := (known_at m K (shift e c, .inl ())) $$ Hkn
  icases Hb with ⟨#HI, #Hr⟩
  ihave Hb' := (known_at m K (c, .inr (.inr e.rev))) $$ Hkn
  icases Hb' with ⟨-, #Hr'⟩
  iapply (Rounds.wp_signal 𝒱₀ ER (rd m) (c : Thread nD τ) none (dst := (shift e c : Thread nD τ)) (κ := K (shift e c, .inl ()))
      (d := e.rev) hd (amount_bar m (shift e c) e.rev) () (owedB c n) hO)
    $$ [HO Ht Hs]
  · isplitr; · iexact HI
    isplitl [HO]; · iexact HO
    isplitl [Ht]; · iexact Ht
    isplitl [Hs]
    · rw [payload_bar]; unfold barPay; rw [shift_rev]
      isplitl [Hs]; · iexists f; iexact Hs
      iexact Hr'
    · iexact Hr
  iexact Hk

/-- The barrier wait, owing the receive credits: every peer's landing slab. The barrier's counter closes at zero. -/
theorem step_barrier (c : Dev nD) {k' : ℕ} (hk : k' = 7) {α : Type} {Q : α → sProp 𝕄} {k : PUnit → Prog (TpuEff nD τ sig (Elt F) Λ₀ .tc) α} (W : Waits sig Unit) :
    iprop(known m K ∗ owes (c : Thread nD τ) (owedB c 0) W ∗ levAts L lv ∗ cred (tallyAt (barCell c) () 7) ∗ atPos ER (barCell c) 0 ∅ 0)
      ⊢ iprop(((owes (c : Thread nD τ) (owedR c 7) (insert (SemLoc.reg barS, ()) W) ∗ semVal (barCell c) 0 ∗ bigSep Finset.univ fun e => barPay c e)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  rw [owedB]
  iintro ⟨#Hkn, HO, #Hlev, Hc, Hat⟩ Hk
  ihave Hb := (known_at m K (c, .inl ())) $$ Hkn
  icases Hb with ⟨#HI, -⟩
  iapply (Rounds.wp_wait_rest_token 𝒱₀ ER (rd m) (c : Thread nD τ) none (κ := K (c, .inl ()))
      (wpE_semWait_eq 𝒱₀ (c : Thread nD τ) none Set.univ) (Set.mem_univ _) () (O := owedR c 7) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  imod (Rounds.cell_close ER (rd m) (Set.mem_univ (K (c, .inl ()))) (fun h => h) (R := 0 + 1) (duties_later m (barCell c))) $$ [Hat] with Hz
  · isplitr; · iexact HI
    iexact Hat
  iapply Hk
  isplitl [HO]; · iexact HO
  isplitl [Hz]; · iexact Hz
  ihave Hp := (Entails.of_eq (rest_bar m c)) $$ Hpay
  iexact Hp

theorem amount_recvM (e : Fin 7) : (recvM e).view.amount (.dma (recvQ e)) = N := rfl

/-- What a block's transfer, both ends squeezed, leaves in the landing slab. -/
theorem landed_read {κ κ' : Kind} {sp sp' : Space} {s s' : Shape} {e : EltTy} (v : View sig κ sp s e) (w : View sig κ' sp' s e)
    (h h' : s'.numel = s.numel) (fd : v.ty.Contents (Elt F)) (fs : w.ty.Contents (Elt F)) :
    v.read (Elt F) ((v.reshape s' h).write (Elt F) fd ((w.reshape s' h').read (Elt F) fs) Finset.univ) = w.read (Elt F) fs := by
  rw [View.write_reshape_univ, View.read_write_univ]
  funext x
  show w.read (Elt F) fs ((Shape.reshapeEquiv h') ((Shape.reshapeEquiv h).symm x)) = _
  rw [Equiv.apply_symm_apply]

/-- The transfer of offset `e + 1`: it spends both slabs, the sent one holding the block for its receiver. -/
theorem step_send (c : Dev nD) (e : Fin 7) (n : ℕ) (he : e = nth n) (t : Dev nD) (ht : t = shift e c)
    {src : Memref sig .tc .vmem S512x256 .bf16} (hsrc' : src = sendM e)
    {dst : Memref sig (Dev.tc t : Thread nD τ).2.kind .vmem S512x256 .bf16} (hdst' : dst = recvM e)
    {sS rS : DmaSem sig} (hsS : sS = sendQ e) (hrS : rS = recvQ e) {hsc : dst.view.ref.isScScratch = false}
    {hsrc : src.view.WordExact} {hdst : dst.view.WordExact}
    {hsem : DmaTarget.Typed .vmem (.dma rS) (.remote (Dev.tc t : Thread nD τ) dst (.dma sS) hsc)}
    {α : Type} {Q : α → sProp 𝕄} {k : PUnit → Prog (TpuEff nD τ sig (Elt F) Λ₀ .tc) α} (fs : Buf (Elt F) (cM.view.loc (c : Thread nD τ)))
    (hfs : cM.view.readAt (Elt F) (slabR e.succ).toLoadRect fs = chunkOf m c (shift e c)) (W : Waits sig Unit) :
    iprop(known m K ∗ owes (c : Thread nD τ) (owedR c (n + 1)) W ∗ sendRes c e ∗ outSlab c e.succ fs ∗ barPay c e)
      ⊢ iprop(((owes (c : Thread nD τ) (owedR c n) W ∗ cred (tallyAt (sendCell c e) () N))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc t : Thread nD τ) dst (.dma sS) hsc) (.dma rS) hsrc hdst hsem) k) Q) := by
  subst ht; subst hsS; subst hrS; subst hsrc'; subst hdst'
  unfold sendRes barPay
  iintro ⟨#Hkn, HO, ⟨Ht1, Ht2⟩, Hs, ⟨%fd, Hd⟩, #Hr2⟩ Hk
  ihave Hb := (known_at m K (c, .inr (.inl e))) $$ Hkn
  icases Hb with ⟨#HI1, #Hr1⟩
  ihave Hb' := (known_at m K (shift e c, .inr (.inr e))) $$ Hkn
  icases Hb' with ⟨#HI2, -⟩
  unfold outSlab inSlab
  rw [← sendM_set, ← recvM_set]
  iapply (Rounds.wp_send_pointsTo 𝒱₀ ER (rd m) (c : Thread nD τ) none (c' := (shift e c : Thread nD τ)) (src := sendM e) (dst := recvM e)
    (κ₁ := K (c, .inr (.inl e))) (κ₂ := K (shift e c, .inr (.inr e)))
    (r₁ := 0) (r₂ := 0) (d₁ := 0) (d₂ := 0) (fs := fs) (fd := fd)
    (by rw [duties_send]; exact Finset.mem_singleton_self _) (by rw [duties_recv]; exact Finset.mem_singleton_self _)
    () () N rfl (amount_dma m c 0 _) (amount_dma m (shift e c) 0 _) (owedR c n) (by subst he; rfl) (W := W)
    (by rw [payload_send]; unfold sendPay outSlab; rw [← sendM_set]; iintro H; iexists fs; iexact H)
    (by
      rw [payload_recv]; unfold recvPay inSlab; rw [← recvM_set]
      iintro H
      iexists _
      isplitr [H]
      rotate_left
      · iexact H
      · ipureintro
        rw [back_shift, ← hfs]
        exact landed_read _ _ _ _ _ _)) $$ [HO Ht1 Ht2 Hs Hd]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO] <;> iassumption

/-- The wait for slab `e + 1`, everything paid: the block of the device before. The semaphore closes at zero. -/
theorem step_recv (c : Dev nD) (e : Fin 7) {rS : DmaSem sig} (hrS : rS = recvQ e)
    {src dst : Memref sig .tc .vmem S512x256 .bf16} (hdst' : dst = recvM e)
    {hsrc : src.view.WordExact} {hdst : dst.view.WordExact} {α : Type} {Q : α → sProp 𝕄} {k : PUnit → Prog (TpuEff nD τ sig (Elt F) Λ₀ .tc) α} (W : Waits sig Unit) :
    iprop(known m K ∗ owes (c : Thread nD τ) 0 W ∗ recvRes c e)
      ⊢ iprop(((owes (c : Thread nD τ) 0 (insert (SemLoc.dma (recvQ e), ()) W) ∗ semVal (recvCell c e) 0 ∗ recvPay m c e)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 rS src dst hsrc hdst) k) Q) := by
  subst hrS; subst hdst'
  unfold recvRes
  iintro ⟨#Hkn, HO, Hat, Hc⟩ Hk
  ihave Hb := (known_at m K (c, .inr (.inr e))) $$ Hkn
  icases Hb with ⟨#HI, -⟩
  iapply (Rounds.wp_wait_rest_token 𝒱₀ ER (rd m) (c : Thread nD τ) none (κ := K (c, .inr (.inr e)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (rd m) (Set.mem_univ (K (c, .inr (.inr e)))) (fun h => h) (R := 0 + 1) (duties_later m (recvCell c e))) $$ [Hat] with Hz
  · isplitr; · iexact HI
    iexact Hat
  iapply Hk
  isplitl [HO]; · iexact HO
  isplitl [Hz]; · iexact Hz
  ihave Hp := (Entails.of_eq (rest_recv m c e)) $$ Hpay
  iexact Hp

/-- The wait for the slab sent from. The semaphore closes at zero. -/
theorem step_sent (c : Dev nD) (e : Fin 7) {sS : DmaSem sig} (hsS : sS = sendQ e)
    {src dst : Memref sig .tc .vmem S512x256 .bf16} (hdst' : dst = sendM e ∨ dst = recvM e)
    {hsrc : src.view.WordExact} {hdst : dst.view.WordExact} {α : Type} {Q : α → sProp 𝕄} {k : PUnit → Prog (TpuEff nD τ sig (Elt F) Λ₀ .tc) α} (W : Waits sig Unit) :
    iprop(known m K ∗ owes (c : Thread nD τ) 0 W ∗ backRes c e)
      ⊢ iprop(((owes (c : Thread nD τ) 0 (insert (SemLoc.dma (sendQ e), ()) W) ∗ semVal (sendCell c e) 0 ∗ sendPay c e)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hsS
  have hN : dst.view.dmaCredit = N := by rcases hdst' with rfl | rfl <;> rfl
  unfold backRes
  iintro ⟨#Hkn, HO, Hat, Hc⟩ Hk
  ihave Hb := (known_at m K (c, .inr (.inl e))) $$ Hkn
  icases Hb with ⟨#HI, -⟩
  rw [← hN]
  iapply (Rounds.wp_wait_rest_token 𝒱₀ ER (rd m) (c : Thread nD τ) none (κ := K (c, .inr (.inl e)))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (rd m) (Set.mem_univ (K (c, .inr (.inl e)))) (fun h => h) (R := 0 + 1) (duties_later m (sendCell c e))) $$ [Hat] with Hz
  · isplitr; · iexact HI
    iexact Hat
  iapply Hk
  isplitl [HO]; · iexact HO
  isplitl [Hz]; · iexact Hz
  ihave Hp := (Entails.of_eq (rest_send m c e)) $$ Hpay
  iexact Hp

end Cert.Exchange

end
-- ==== Proof.Stored.lean ====
/-
# What the body's loads and stores mean

The run of the body (Body.lean) states what it reads and writes as stores listed over a buffer. Here each of those is
named by the values of Protocol.lean: a slot of the double buffer after a copy holds `colsOf`, the bytes stored for
the device `e + 1` places after are `chunkOf`, and the eight stores of row blocks leave `resultOf`.
-/
module

public import proofs.«01_k».proof.Proof.Protocol
public import Idealize.ShloMosaic.Lib.WritesUnit
public import Idealize.ShloMosaic.Lib.VecWindow
public import Idealize.ShloMosaic.Lib.Pipeline.Value

@[expose] public section

noncomputable section

namespace Cert.Exchange

open Cert.KernelIdeal Cert.KernelIdeal.Gen

open Idealize.ShloMosaic
open Idealize.ShloMosaic.TcCoe

variable {F : FTy → Type} [FloatOps F]

variable (m : (ℓ : Loc nD τ sig) → Buf (Elt F) ℓ)

/-! ## The body's buffers -/

abbrev xM : Memref sig .tc .vmem S512x4096 .f32 := Memref.whole cc0_stg0_0
abbrev aM : Memref sig .tc .smem S1 .f32 := Memref.whole cc0_stg1_0
abbrev bM : Memref sig .tc .smem S1 .f32 := Memref.whole cc0_stg2_0
abbrev oM : Memref sig .tc .vmem S4096x256 .f32 := Memref.whole cc0_stg3_0
abbrev wM : Memref sig .tc .hbm S4096x2048 .f32 := Memref.whole main_arg1
abbrev xqM : Memref sig .tc .vmem S512x4096 .fp8e5m2 := Memref.whole cc0_scratch0
abbrev wbM : Memref sig .tc .vmem S2x4096x256 .f32 := Memref.whole cc0_scratch1

set_option backward.proofsInPublic true in
theorem slot_inb (s : Fin 2) : ∀ a, (![s.val, 0, 0] : Fin 3 → ℕ) a + S1x4096x256.size a ≤ S2x4096x256.size a := by
  revert s; decide
/-- Slot `s` of the double buffer, -/
abbrev slotR (s : Fin 2) : Rect S2x4096x256 := Rect.unit (s := S2x4096x256) ![s.val, 0, 0] S1x4096x256.size (slot_inb s)
/-- as the matrix the copies fill. -/
abbrev slotM (s : Fin 2) : Memref sig .tc .vmem S4096x256 .f32 :=
  (wbM.slice (slotR s) (fun _ => rfl)).squeeze S4096x256 squeezes_S1x4096x256_S4096x256

/-! ## Where the kernel reads and writes -/

theorem off1_own : ∀ c : Dev nD, k0_off1 c 0#32 = ![0, 256 * c.val] := by decide +kernel
theorem off1_shift : ∀ (e : Fin 7) (c : Dev nD), k0_off1 c (BitVec.ofNat 32 (e.val + 1)) = ![0, 256 * (shift e c).val] := by decide +kernel
theorem off3_back : ∀ (e : Fin 7) (c : Dev nD), k0_off3 c (BitVec.ofNat 32 (1 + e.val)) = ![512 * (back e c).val, 0] := by decide +kernel

/-! ## What the loads read -/

/-- A slot filled by a copy of the columns of device `k`, loaded. -/
theorem slot_cols (c k : Dev nD) (s : Fin 2) {off : Fin 2 → ℕ} (hoff : off = ![0, 256 * k.val]) (inb : ∀ a, off a + S4096x256.size a ≤ S4096x2048.size a)
    (f : wbM.view.ty.Contents (Elt F)) (L : List (View.Piece (Elt F) S4096x256 .f32)) :
    wbM.view.readAt (Elt F) (slotR s).toLoadRect
        ((slotM s).view.writes (Elt F) f (⟨Rect.whole S4096x256,
          ReadAs.same.apply ((wM.slice (Rect.unit (s := S4096x2048) off S4096x256.size inb) (fun _ => rfl)).view.read (Elt F) (m ((c : Thread nD τ).loc main_arg1)))⟩ :: L))
      = colsOf m c k := by
  subst hoff
  have key : ∀ d : S4096x256.Idx → Elt F .f32, shapeCast S4096x256 (wbM.view.readAt (Elt F) (slotR s).toLoadRect
        ((slotM s).view.writes (Elt F) f (⟨Rect.whole S4096x256, d⟩ :: L))) shapeCasts_S1x4096x256_S4096x256 = d := by
    intro d
    refine (Memref.read_squeeze_slice wbM (slotR s) (fun _ => rfl) squeezes_S1x4096x256_S4096x256 _ _).symm.trans ?_
    funext y
    have h := View.read_writes_cons_emb (slotM s).view f (Rect.whole S4096x256) d L y
    rwa [Rect.emb_whole_apply] at h
  funext i
  have h := congrFun (key (ReadAs.same.apply ((wM.slice (Rect.unit (s := S4096x2048) ![0, 256 * k.val] S4096x256.size inb) (fun _ => rfl)).view.read (Elt F) (m ((c : Thread nD τ).loc main_arg1)))))
    (Fin.cons (i 1) (Fin.cons (i 2) fun a => a.elim0))
  rw [shapeCast_apply (k := i)] at h
  · rw [h]
    refine congrArg (m ((c : Thread nD τ).loc main_arg1)) ?_
    funext a
    match a with
    | 0 => exact Fin.ext (by show 0 + 1 * (i 1).val = _; rw [Nat.zero_add, Nat.one_mul]; rfl)
    | 1 => exact Fin.ext (by show 256 * k.val + 1 * (i 2).val = _; rw [Nat.one_mul]; rfl)
  · rw [Shape.rowMajor_val_three, Shape.rowMajor_val_two]
    have h0 : (i 0).val = 0 := Nat.lt_one_iff.1 (i 0).isLt
    rw [h0]
    show _ = (i 1).val * 256 + (i 2).val
    show (0 * 4096 + (i 1).val) * 256 + (i 2).val = _
    omega

/-- A slab just stored, as the transfer's receiver will read it. -/
theorem slab_stored (k : Fin 8) (f : cM.view.ty.Contents (Elt F)) (w : (slabR k).shape.Idx → Elt F .bf16) (L : List (View.Piece (Elt F) S8x512x256 .bf16)) :
    cM.view.readAt (Elt F) (slabR k).toLoadRect (cM.view.writes (Elt F) f (⟨slabR k, w⟩ :: L)) = w := by
  funext y
  exact View.read_writes_cons_emb cM.view f (slabR k) w L y

/-! ## The result -/

set_option backward.proofsInPublic true in
theorem rows_inb (k : Dev nD) : ∀ a, (![512 * k.val, 0] : Fin 2 → ℕ) a + S512x256.size a ≤ S4096x256.size a := by revert k; decide
/-- The rows device `k`'s block takes. -/
def rowsPiece (k : Dev nD) (w : FVec F S512x256 .f32) : View.Piece (Elt F) S4096x256 .f32 :=
  ⟨Rect.unit (s := S4096x256) ![512 * k.val, 0] S512x256.size (rows_inb k), w⟩

theorem rowsPiece_of {k : Dev nD} {off : Fin 2 → ℕ} (hoff : off = ![512 * k.val, 0]) (inb : ∀ a, off a + S512x256.size a ≤ S4096x256.size a)
    {w w' : FVec F S512x256 .f32} (hw : w = w') :
    (⟨Rect.unit (s := S4096x256) off S512x256.size inb, w⟩ : View.Piece (Elt F) S4096x256 .f32) = rowsPiece k w' := by
  subst hoff; subst hw; rfl

/-- After the blocks of the devices `ks` were stored, a row of one of them reads that device's block. -/
theorem rows_read (c : Dev nD) (f : oM.view.ty.Contents (Elt F)) (i : S4096x256.Idx) (ks : List (Dev nD))
    (hi : (⟨(i 0).val / 512, by have h : (i 0).val < 4096 := (i 0).isLt; show _ < 8; omega⟩ : Dev nD) ∈ ks) :
    oM.view.read (Elt F) (oM.view.writes (Elt F) f (ks.map fun k => rowsPiece k (blockOf m c k))) i = resultOf m c i := by
  induction ks with
  | nil => cases hi
  | cons k ks ih =>
    rw [List.map_cons]
    unfold rowsPiece
    by_cases h : k = (⟨(i 0).val / 512, by have h : (i 0).val < 4096 := (i 0).isLt; show _ < 8; omega⟩ : Dev nD)
    · unfold resultOf
      rw [← h]
      have hk : k.val = (i 0).val / 512 := congrArg Fin.val h
      exact View.read_writes_cons_rows_of_mem oM.view f (o := 512 * k.val) (rows_inb k) _ _ i _ rfl
        (by show (i 0).val = 512 * k.val + (i 0).val % 512; omega) rfl
    · rw [View.read_writes_cons_rows_of_not_mem (W := 512) oM.view f (o := 512 * k.val) (rows_inb k) _ _ i rfl rfl]
      · exact ih ((List.mem_cons.1 hi).resolve_left fun e => h e.symm)
      · have hk : k.val ≠ (i 0).val / 512 := fun e => h (Fin.ext e)
        omega

/-- The eight blocks stored, the result is whole. -/
theorem rows_all (c : Dev nD) (f : oM.view.ty.Contents (Elt F)) (ks : List (Dev nD)) (hks : ∀ k : Dev nD, k ∈ ks) :
    oM.view.writes (Elt F) f (ks.map fun k => rowsPiece k (blockOf m c k)) = resultOf m c :=
  funext fun i => rows_read m c f i ks (hks _)

/-- The same, the pieces as the run lists them: the last received first. -/
theorem rows_eight (c : Dev nD) (f : oM.view.ty.Contents (Elt F)) {p6 p5 p4 p3 p2 p1 p0 p : View.Piece (Elt F) S4096x256 .f32}
    (h6 : p6 = rowsPiece (back 6 c) (blockOf m c (back 6 c))) (h5 : p5 = rowsPiece (back 5 c) (blockOf m c (back 5 c)))
    (h4 : p4 = rowsPiece (back 4 c) (blockOf m c (back 4 c))) (h3 : p3 = rowsPiece (back 3 c) (blockOf m c (back 3 c)))
    (h2 : p2 = rowsPiece (back 2 c) (blockOf m c (back 2 c))) (h1 : p1 = rowsPiece (back 1 c) (blockOf m c (back 1 c)))
    (h0 : p0 = rowsPiece (back 0 c) (blockOf m c (back 0 c))) (h : p = rowsPiece c (blockOf m c c)) :
    oM.view.writes (Elt F) f [p6, p5, p4, p3, p2, p1, p0, p] = resultOf m c := by
  subst h6; subst h5; subst h4; subst h3; subst h2; subst h1; subst h0; subst h
  refine rows_all m c f [back 6 c, back 5 c, back 4 c, back 3 c, back 2 c, back 1 c, back 0 c, c] fun k => ?_
  rcases dev_cases c k with rfl | ⟨e, rfl⟩
  · simp
  · fin_cases e <;> simp

end Cert.Exchange

end
-- ==== Proof.Body.lean ====
/-
# One device's run of the body

The body at a symbolic device `c`, from the buffers and rights the launch deals it. The seven signals, the barrier, the
seven transfers and the fourteen waits are the steps of Steps.lean; loads, stores and the local copies between them are
run by the executor, and what they leave is named by Stored.lean.
-/
module

public import proofs.«01_k».proof.Proof.Steps
public import proofs.«01_k».proof.Proof.Stored

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Own → ℕ)

/-! ## Names for the places the body addresses -/

theorem dev_shift : ∀ c : Dev nD,
    ((⟨k0_dev1 c, k0_dev1_lt c⟩ : Dev nD) = shift 0 c ∧ (⟨k0_dev2 c, k0_dev2_lt c⟩ : Dev nD) = shift 1 c ∧ (⟨k0_dev3 c, k0_dev3_lt c⟩ : Dev nD) = shift 2 c
      ∧ (⟨k0_dev4 c, k0_dev4_lt c⟩ : Dev nD) = shift 3 c ∧ (⟨k0_dev5 c, k0_dev5_lt c⟩ : Dev nD) = shift 4 c ∧ (⟨k0_dev6 c, k0_dev6_lt c⟩ : Dev nD) = shift 5 c
      ∧ (⟨k0_dev7 c, k0_dev7_lt c⟩ : Dev nD) = shift 6 c)
    ∧ ((⟨k0_dev8 c, k0_dev8_lt c⟩ : Dev nD) = shift 0 c ∧ (⟨k0_dev9 c, k0_dev9_lt c⟩ : Dev nD) = shift 1 c ∧ (⟨k0_dev10 c, k0_dev10_lt c⟩ : Dev nD) = shift 2 c
      ∧ (⟨k0_dev11 c, k0_dev11_lt c⟩ : Dev nD) = shift 3 c ∧ (⟨k0_dev12 c, k0_dev12_lt c⟩ : Dev nD) = shift 4 c ∧ (⟨k0_dev13 c, k0_dev13_lt c⟩ : Dev nD) = shift 5 c
      ∧ (⟨k0_dev14 c, k0_dev14_lt c⟩ : Dev nD) = shift 6 c) := by decide +kernel

theorem out_lit (c : Dev nD) (k : Fin 8) (n : ℕ) (hn : k.val = n) (inb : ∀ a, (![n, 0, 0] : Fin 3 → ℕ) a + S1x512x256.size a ≤ S8x512x256.size a) (f : Buf (Elt F) (cM.view.loc (c : Thread nD τ))) :
    (outSlab c k f : sProp 𝕄) = (cM.view.loc (c : Thread nD τ) ↦[cM.view.setOn (Rect.unit (s := S8x512x256) ![n, 0, 0] S1x512x256.size inb).set]{fullShare} f) := by
  subst hn; rfl
theorem in_lit (c : Dev nD) (k : Fin 8) (n : ℕ) (hn : k.val = n) (inb : ∀ a, (![n, 0, 0] : Fin 3 → ℕ) a + S1x512x256.size a ≤ S8x512x256.size a) (f : Buf (Elt F) (rM.view.loc (c : Thread nD τ))) :
    (inSlab c k f : sProp 𝕄) = (rM.view.loc (c : Thread nD τ) ↦[rM.view.setOn (Rect.unit (s := S8x512x256) ![n, 0, 0] S1x512x256.size inb).set]{fullShare} f) := by
  subst hn; rfl

theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- A wait for a local copy while transfers are still owed. -/
theorem mayWait_copy (c : Dev nD) (q : DmaSem sig) (hq : q.val < 15) (n : ℕ) :
    (levAts L lv : sProp 𝕄) ⊢ MayWait (c : Thread nD τ) (.dma q) () (owedR c n) :=
  mayWait_low c _ hq _ fun g u hg => .inl (owedR_pos n hg)

/-! ## The values met on the way -/

section Values

variable {m} {c k : Dev nD} {s : F .f32} {x : Vec F S512x4096 .fp8e5m2} {w : Vec F S1x4096x256 .f32}

theorem chunk_of (hs : s = scaleOf m c) (hx : x = k0_pay2 (xOf m c)) (hw : w = colsOf m c k) : k0_pay8 s x w = chunkOf m c k := by
  subst hs; subst hx; subst hw; rfl
-- the same value as the kernel computes it in its other rounds
theorem chunk_of₁ (hs : s = scaleOf m c) (hx : x = k0_pay2 (xOf m c)) (hw : w = colsOf m c k) {z : F .f32} (hz : z = Scalar.ofBits .f32 0x00000000#32) :
    k0_pay7 (k0_pay5 s x w) (k0_pay6 s x w) z = chunkOf m c k := by subst hz; exact chunk_of hs hx hw
theorem chunk_of₃ (hs : s = scaleOf m c) (hx : x = k0_pay2 (xOf m c)) (hw : w = colsOf m c k) : k0_pay9 s x w = chunkOf m c k := chunk_of hs hx hw
theorem chunk_of₄ (hs : s = scaleOf m c) (hx : x = k0_pay2 (xOf m c)) (hw : w = colsOf m c k) : k0_pay11 (k0_pay10 s x w) = chunkOf m c k := chunk_of hs hx hw
theorem chunk_of₅ (hs : s = scaleOf m c) (hx : x = k0_pay2 (xOf m c)) (hw : w = colsOf m c k) {z : F .f32} (hz : z = Scalar.ofBits .f32 0x42700000#32) :
    k0_pay14 (k0_pay12 s x w) z k0_pay13 = chunkOf m c k := by subst hz; exact chunk_of hs hx hw
theorem chunk_of₆ (hs : s = scaleOf m c) (hx : x = k0_pay2 (xOf m c)) (hw : w = colsOf m c k) : k0_pay15 s x w = chunkOf m c k := chunk_of hs hx hw
theorem chunk_of₇ (hs : s = scaleOf m c) (hx : x = k0_pay2 (xOf m c)) (hw : w = colsOf m c k) {z z' : F .f32} (hz : z = Scalar.ofBits .f32 0xC2700000#32) (hz' : z' = Scalar.ofBits .f32 0x42700000#32) :
    k0_pay17 (k0_pay16 s x w) z z' = chunkOf m c k := by subst hz; subst hz'; exact chunk_of hs hx hw
theorem kept_of (hs : s = scaleOf m c) (hx : x = k0_pay2 (xOf m c)) (hw : w = colsOf m c c) : k0_pay4 (k0_pay3 s x w) = blockOf m c c := by
  subst hs; subst hx; subst hw; unfold blockOf; rw [if_pos rfl]; rfl
theorem received_of {v : FVec F S1x512x256 .bf16} (e : Fin 7) (hv : v = chunkOf m (back e c) c) : k0_pay18 v = blockOf m c (back e c) := by
  subst hv; unfold blockOf; rw [if_neg (back_ne e c)]
theorem received_of₁ {v : FVec F S1x512x256 .bf16} (e : Fin 7) (hv : v = chunkOf m (back e c) c) : k0_pay19 v = blockOf m c (back e c) := received_of e hv
theorem received_of₂ {v : FVec F S1x512x256 .bf16} (e : Fin 7) (hv : v = chunkOf m (back e c) c) : k0_pay20 v = blockOf m c (back e c) := received_of e hv
theorem received_of₃ {v : FVec F S1x512x256 .bf16} (e : Fin 7) (hv : v = chunkOf m (back e c) c) : k0_pay21 v = blockOf m c (back e c) := received_of e hv
theorem received_of₄ {v : FVec F S1x512x256 .bf16} (e : Fin 7) (hv : v = chunkOf m (back e c) c) : k0_pay22 v = blockOf m c (back e c) := received_of e hv
theorem received_of₅ {v : FVec F S1x512x256 .bf16} (e : Fin 7) (hv : v = chunkOf m (back e c) c) : k0_pay23 v = blockOf m c (back e c) := received_of e hv
theorem received_of₆ {v : FVec F S1x512x256 .bf16} (e : Fin 7) (hv : v = chunkOf m (back e c) c) : k0_pay24 v = blockOf m c (back e c) := received_of e hv

end Values

theorem scales_read (c : Dev nD) (inb : ∀ a, (![0] : Fin 1 → ℕ) a + S1.size a ≤ S1.size a) (h : 0 < S1.numel) :
    k0_pay1 (aM.view.readAt (Elt F) (Rect.unit (s := S1) ![0] S1.size inb).toLoadRect (m ((c : Thread nD τ).loc main_arg2)) (Shape.Idx.first h))
      (bM.view.readAt (Elt F) (Rect.unit (s := S1) ![0] S1.size inb).toLoadRect (m ((c : Thread nD τ).loc main_arg3)) (Shape.Idx.first h)) = scaleOf m c := by
  rw [View.readAt_full, View.readAt_full]; rfl

theorem cast_read (c : Dev nD) (inb inb' inb'' : ∀ a, (![0, 0] : Fin 2 → ℕ) a + S512x4096.size a ≤ S512x4096.size a) :
    View.readCov (Val := Elt F) xqM.view [⟨Rect.unit (s := S512x4096) ![0, 0] S512x4096.size inb,
        k0_pay2 (xM.view.readAt (Elt F) (Rect.unit (s := S512x4096) ![0, 0] S512x4096.size inb').toLoadRect (m ((c : Thread nD τ).loc main_arg0)))⟩]
      (Rect.unit (s := S512x4096) ![0, 0] S512x4096.size inb'').toLoadRect = k0_pay2 (xOf m c) := by
  refine (View.readCov_full xqM.view inb'' inb _ []).trans (congrArg k0_pay2 ?_)
  rw [View.readAt_full]; rfl

/-! ## The run -/

/-- The buffers only device `c` touches, before the run: the staged inputs, the result's buffer, the weights, the cast
    rows and the two slots of the double buffer, with their semaphores at zero. -/
def ownBefore (c : Dev nD) : sProp 𝕄 :=
  iprop((xM.view.loc (c : Thread nD τ) ↦{fullShare} m ((c : Thread nD τ).loc main_arg0)) ∗ (aM.view.loc (c : Thread nD τ) ↦{fullShare} m ((c : Thread nD τ).loc main_arg2))
    ∗ (bM.view.loc (c : Thread nD τ) ↦{fullShare} m ((c : Thread nD τ).loc main_arg3)) ∗ (∃ f, oM.view.loc (c : Thread nD τ) ↦{fullShare} f)
    ∗ (wM.view.loc (c : Thread nD τ) ↦{fullShare} m ((c : Thread nD τ).loc main_arg1))
    ∗ (∃ f, xqM.view.loc (c : Thread nD τ) ↦{fullShare} f)
    ∗ (∃ f, (slotM 0).view.loc (c : Thread nD τ) ↦[(slotM 0).view.set]{fullShare} f) ∗ (∃ f, (slotM 1).view.loc (c : Thread nD τ) ↦[(slotM 1).view.set]{fullShare} f)
    ∗ semVal ((c : Thread nD τ), .dma (⟨4, by decide⟩ : DmaSem sig)) 0 ∗ semVal ((c : Thread nD τ), .dma (⟨5, by decide⟩ : DmaSem sig)) 0)
/-- And after it. -/
def ownAfter (c : Dev nD) : sProp 𝕄 :=
  iprop((xM.view.loc (c : Thread nD τ) ↦{fullShare} m ((c : Thread nD τ).loc main_arg0)) ∗ (aM.view.loc (c : Thread nD τ) ↦{fullShare} m ((c : Thread nD τ).loc main_arg2))
    ∗ (bM.view.loc (c : Thread nD τ) ↦{fullShare} m ((c : Thread nD τ).loc main_arg3)) ∗ (oM.view.loc (c : Thread nD τ) ↦{fullShare} resultOf m c)
    ∗ (wM.view.loc (c : Thread nD τ) ↦{fullShare} m ((c : Thread nD τ).loc main_arg1))
    ∗ (∃ f, xqM.view.loc (c : Thread nD τ) ↦{fullShare} f)
    ∗ (∃ f, (slotM 0).view.loc (c : Thread nD τ) ↦[(slotM 0).view.set]{fullShare} f) ∗ (∃ f, (slotM 1).view.loc (c : Thread nD τ) ↦[(slotM 1).view.set]{fullShare} f)
    ∗ semVal ((c : Thread nD τ), .dma (⟨4, by decide⟩ : DmaSem sig)) 0 ∗ semVal ((c : Thread nD τ), .dma (⟨5, by decide⟩ : DmaSem sig)) 0)

/-- The rights and slabs the exchange spends. -/
def sharedBefore (c : Dev nD) : sProp 𝕄 :=
  iprop(cred (tallyAt (barCell c) () 7) ∗ atPos ER (barCell c) 0 ∅ 0
    ∗ (bigSep Finset.univ fun e => signalRes c e) ∗ (bigSep Finset.univ fun e => sendRes c e) ∗ (bigSep Finset.univ fun e => recvRes c e)
    ∗ (bigSep Finset.univ fun e => atPos ER (sendCell c e) 0 ∅ 0) ∗ (bigSep Finset.univ fun e : Fin 7 => iprop(∃ f, outSlab c e.succ f)))
/-- What it leaves: the shared semaphores at zero and the device's own slabs. -/
def sharedAfter (c : Dev nD) : sProp 𝕄 :=
  iprop(semVal (barCell c) 0 ∗ (bigSep Finset.univ fun e => semVal (sendCell c e) 0) ∗ (bigSep Finset.univ fun e => semVal (recvCell c e) 0)
    ∗ (bigSep Finset.univ fun e : Fin 7 => iprop(∃ f, outSlab c e.succ f)) ∗ (bigSep Finset.univ fun e : Fin 7 => iprop(∃ f, inSlab c e.succ f)))

set_option maxHeartbeats 800000 in
/-- The run of the body on device `c`. -/
theorem run (c : Dev nD) (Kt : PUnit → sProp 𝕄) (W : Waits sig Unit) :
    iprop(known m K ∗ levAts L lv ∗ owes (c : Thread nD τ) (owedB c 7) W ∗ ownBefore m c ∗ sharedBefore c
        ∗ ((∃ W', owes (c : Thread nD τ) 0 W' ∗ ownAfter m c ∗ sharedAfter c) -∗ Kt ⟨⟩))
      ⊢ wp frame (wpE (defs₀ (F := F)) 𝒱₀ c none) Set.univ
          (cc0_body xM (Memref.isWhole_whole _) wM (Memref.isWhole_whole _) aM (Memref.isWhole_whole _) bM (Memref.isWhole_whole _)
            oM (Memref.isWhole_whole _) xqM (Memref.isWhole_whole _) wbM (Memref.isWhole_whole _) cM (Memref.isWhole_whole _)
            rM (Memref.isWhole_whole _) cc0_scratch4 cc0_scratch5 cc0_scratch6) Kt := by
  rw [cc0_body_eq_skeleton]
  sl_unfold [cc0_body_skel]
  unfold ownBefore sharedBefore
  rw [seven, seven, seven, seven, seven]
  obtain ⟨⟨hd1, hd2, hd3, hd4, hd5, hd6, hd7⟩, hd8, hd9, hd10, hd11, hd12, hd13, hd14⟩ := dev_shift c
  iintro ⟨#Hkn, #Hlev, HO, ⟨Hx, Ha, Hb, ⟨%fo, Ho⟩, Hw, ⟨%fq, Hxq⟩, ⟨%g0, Hw0⟩, ⟨%g1, Hw1⟩, Hz0, Hz1⟩,
    ⟨HcB, HatB, ⟨HS0, HS1, HS2, HS3, HS4, HS5, HS6⟩, ⟨HT0, HT1, HT2, HT3, HT4, HT5, HT6⟩, ⟨HR0, HR1, HR2, HR3, HR4, HR5, HR6⟩,
      ⟨HA0, HA1, HA2, HA3, HA4, HA5, HA6⟩, ⟨⟨%h0, Hc0⟩, ⟨%h1, Hc1⟩, ⟨%h2, Hc2⟩, ⟨%h3, Hc3⟩, ⟨%h4, Hc4⟩, ⟨%h5, Hc5⟩, ⟨%h6, Hc6⟩⟩⟩, Hk⟩
  ihave Hc0 := (Entails.of_eq (out_lit c (Fin.succ 0) 1 rfl inb_S8x512x256_S1x512x256_1_0_0 h0)) $$ Hc0
  ihave Hc1 := (Entails.of_eq (out_lit c (Fin.succ 1) 2 rfl inb_S8x512x256_S1x512x256_2_0_0 h1)) $$ Hc1
  ihave Hc2 := (Entails.of_eq (out_lit c (Fin.succ 2) 3 rfl inb_S8x512x256_S1x512x256_3_0_0 h2)) $$ Hc2
  ihave Hc3 := (Entails.of_eq (out_lit c (Fin.succ 3) 4 rfl inb_S8x512x256_S1x512x256_4_0_0 h3)) $$ Hc3
  ihave Hc4 := (Entails.of_eq (out_lit c (Fin.succ 4) 5 rfl inb_S8x512x256_S1x512x256_5_0_0 h4)) $$ Hc4
  ihave Hc5 := (Entails.of_eq (out_lit c (Fin.succ 5) 6 rfl inb_S8x512x256_S1x512x256_6_0_0 h5)) $$ Hc5
  ihave Hc6 := (Entails.of_eq (out_lit c (Fin.succ 6) 7 rfl inb_S8x512x256_S1x512x256_7_0_0 h6)) $$ Hc6
  -- the seven signals, each offering a landing slab
  sl_exec
  iapply (step_signal m K c 0 6 rfl _ hd1 (by decide) W) $$ [HO HS0]
  · isplitr; · iexact Hkn
    isplitl [HO] <;> iassumption
  iintro HO
  sl_exec
  iapply (step_signal m K c 1 5 rfl _ hd2 (by decide) W) $$ [HO HS1]
  · isplitr; · iexact Hkn
    isplitl [HO] <;> iassumption
  iintro HO
  sl_exec
  iapply (step_signal m K c 2 4 rfl _ hd3 (by decide) W) $$ [HO HS2]
  · isplitr; · iexact Hkn
    isplitl [HO] <;> iassumption
  iintro HO
  sl_exec
  iapply (step_signal m K c 3 3 rfl _ hd4 (by decide) W) $$ [HO HS3]
  · isplitr; · iexact Hkn
    isplitl [HO] <;> iassumption
  iintro HO
  sl_exec
  iapply (step_signal m K c 4 2 rfl _ hd5 (by decide) W) $$ [HO HS4]
  · isplitr; · iexact Hkn
    isplitl [HO] <;> iassumption
  iintro HO
  sl_exec
  iapply (step_signal m K c 5 1 rfl _ hd6 (by decide) W) $$ [HO HS5]
  · isplitr; · iexact Hkn
    isplitl [HO] <;> iassumption
  iintro HO
  sl_exec
  iapply (step_signal m K c 6 0 rfl _ hd7 (by decide) W) $$ [HO HS6]
  · isplitr; · iexact Hkn
    isplitl [HO] <;> iassumption
  iintro HO
  -- the barrier: every peer's landing slab
  sl_exec
  iapply (step_barrier m K c (by decide) W) $$ [HO HcB HatB]
  · isplitr; · iexact Hkn
    isplitl [HO]; · iexact HO
    isplitr; · iexact Hlev
    isplitl [HcB] <;> iassumption
  iintro ⟨HO, HzB, Hbar⟩
  ihave Hbar' := (Entails.of_eq (seven fun e => barPay c e)) $$ Hbar
  icases Hbar' with ⟨HB0, HB1, HB2, HB3, HB4, HB5, HB6⟩
  have hw4 := mayWait_copy (F := F) c ⟨4, by decide⟩ (by decide)
  have hw5 := mayWait_copy (F := F) c ⟨5, by decide⟩ (by decide)
  have hw47 := hw4 7
  have hw57 := hw5 7
  -- the seven transfers, each sent block computed from the slot just copied
  sl_exec
  iapply (step_send m K c 0 6 rfl _ hd8 rfl rfl rfl rfl _ ((slab_stored (Fin.succ 0) _ _ []).trans
    (chunk_of₁ (scales_read m c (by decide) (by decide)) (cast_read m c (by decide) (by decide) (by decide)) (slot_cols m c (shift 0 c) 1 (off1_shift 0 c) _ _ _) rfl)) _) $$ [HO HT0 Hc0 HB0]
  · isplitr; · iexact Hkn
    isplitl [HO]; · iexact HO
    isplitl [HT0]; · iexact HT0
    isplitl [Hc0]; · iexact Hc0
    iexact HB0
  iintro ⟨HO, HD0⟩
  have hwait1 := hw4 6
  sl_exec
  iapply (step_send m K c 1 5 rfl _ hd9 rfl rfl rfl rfl _ ((slab_stored (Fin.succ 1) _ _ []).trans
    (chunk_of (scales_read m c (by decide) (by decide)) (cast_read m c (by decide) (by decide) (by decide)) (slot_cols m c (shift 1 c) 0 (off1_shift 1 c) _ _ _))) _) $$ [HO HT1 Hc1 HB1]
  · isplitr; · iexact Hkn
    isplitl [HO]; · iexact HO
    isplitl [HT1]; · iexact HT1
    isplitl [Hc1]; · iexact Hc1
    iexact HB1
  iintro ⟨HO, HD1⟩
  have hwait2 := hw5 5
  sl_exec
  iapply (step_send m K c 2 4 rfl _ hd10 rfl rfl rfl rfl _ ((slab_stored (Fin.succ 2) _ _ []).trans
    (chunk_of₃ (scales_read m c (by decide) (by decide)) (cast_read m c (by decide) (by decide) (by decide)) (slot_cols m c (shift 2 c) 1 (off1_shift 2 c) _ _ _))) _) $$ [HO HT2 Hc2 HB2]
  · isplitr; · iexact Hkn
    isplitl [HO]; · iexact HO
    isplitl [HT2]; · iexact HT2
    isplitl [Hc2]; · iexact Hc2
    iexact HB2
  iintro ⟨HO, HD2⟩
  have hwait3 := hw4 4
  sl_exec
  iapply (step_send m K c 3 3 rfl _ hd11 rfl rfl rfl rfl _ ((slab_stored (Fin.succ 3) _ _ []).trans
    (chunk_of₄ (scales_read m c (by decide) (by decide)) (cast_read m c (by decide) (by decide) (by decide)) (slot_cols m c (shift 3 c) 0 (off1_shift 3 c) _ _ _))) _) $$ [HO HT3 Hc3 HB3]
  · isplitr; · iexact Hkn
    isplitl [HO]; · iexact HO
    isplitl [HT3]; · iexact HT3
    isplitl [Hc3]; · iexact Hc3
    iexact HB3
  iintro ⟨HO, HD3⟩
  have hwait4 := hw5 3
  sl_exec
  iapply (step_send m K c 4 2 rfl _ hd12 rfl rfl rfl rfl _ ((slab_stored (Fin.succ 4) _ _ []).trans
    (chunk_of₅ (scales_read m c (by decide) (by decide)) (cast_read m c (by decide) (by decide) (by decide)) (slot_cols m c (shift 4 c) 1 (off1_shift 4 c) _ _ _) rfl)) _) $$ [HO HT4 Hc4 HB4]
  · isplitr; · iexact Hkn
    isplitl [HO]; · iexact HO
    isplitl [HT4]; · iexact HT4
    isplitl [Hc4]; · iexact Hc4
    iexact HB4
  iintro ⟨HO, HD4⟩
  have hwait5 := hw4 2
  sl_exec
  iapply (step_send m K c 5 1 rfl _ hd13 rfl rfl rfl rfl _ ((slab_stored (Fin.succ 5) _ _ []).trans
    (chunk_of₆ (scales_read m c (by decide) (by decide)) (cast_read m c (by decide) (by decide) (by decide)) (slot_cols m c (shift 5 c) 0 (off1_shift 5 c) _ _ _))) _) $$ [HO HT5 Hc5 HB5]
  · isplitr; · iexact Hkn
    isplitl [HO]; · iexact HO
    isplitl [HT5]; · iexact HT5
    isplitl [Hc5]; · iexact Hc5
    iexact HB5
  iintro ⟨HO, HD5⟩
  have hwait6 := hw5 1
  sl_exec
  iapply (step_send m K c 6 0 rfl _ hd14 rfl rfl rfl rfl _ ((slab_stored (Fin.succ 6) _ _ []).trans
    (chunk_of₇ (scales_read m c (by decide) (by decide)) (cast_read m c (by decide) (by decide) (by decide)) (slot_cols m c (shift 6 c) 1 (off1_shift 6 c) _ _ _) rfl rfl)) _) $$ [HO HT6 Hc6 HB6]
  · isplitr; · iexact Hkn
    isplitl [HO]; · iexact HO
    isplitl [HT6]; · iexact HT6
    isplitl [Hc6]; · iexact Hc6
    iexact HB6
  iintro ⟨HO, HD6⟩
  -- the seven blocks received
  sl_exec
  iapply (step_recv m K c 0 rfl rfl _) $$ [HO HR0]
  · isplitr; · iexact Hkn
    isplitl [HO]; · iexact HO
    iexact HR0
  iintro ⟨HO, HV0, Hp⟩
  unfold recvPay
  icases Hp with ⟨%f0, %hf0, Hp⟩
  ihave Hr0 := (Entails.of_eq (in_lit c (Fin.succ 0) 1 rfl inb_S8x512x256_S1x512x256_1_0_0 f0)) $$ Hp
  sl_exec
  iapply (step_recv m K c 1 rfl rfl _) $$ [HO HR1]
  · isplitr; · iexact Hkn
    isplitl [HO] <;> iassumption
  iintro ⟨HO, HV1, Hp⟩
  unfold recvPay
  icases Hp with ⟨%f1, %hf1, Hp⟩
  ihave Hr1 := (Entails.of_eq (in_lit c (Fin.succ 1) 2 rfl inb_S8x512x256_S1x512x256_2_0_0 f1)) $$ Hp
  sl_exec
  iapply (step_recv m K c 2 rfl rfl _) $$ [HO HR2]
  · isplitr; · iexact Hkn
    isplitl [HO] <;> iassumption
  iintro ⟨HO, HV2, Hp⟩
  unfold recvPay
  icases Hp with ⟨%f2, %hf2, Hp⟩
  ihave Hr2 := (Entails.of_eq (in_lit c (Fin.succ 2) 3 rfl inb_S8x512x256_S1x512x256_3_0_0 f2)) $$ Hp
  sl_exec
  iapply (step_recv m K c 3 rfl rfl _) $$ [HO HR3]
  · isplitr; · iexact Hkn
    isplitl [HO] <;> iassumption
  iintro ⟨HO, HV3, Hp⟩
  unfold recvPay
  icases Hp with ⟨%f3, %hf3, Hp⟩
  ihave Hr3 := (Entails.of_eq (in_lit c (Fin.succ 3) 4 rfl inb_S8x512x256_S1x512x256_4_0_0 f3)) $$ Hp
  sl_exec
  iapply (step_recv m K c 4 rfl rfl _) $$ [HO HR4]
  · isplitr; · iexact Hkn
    isplitl [HO] <;> iassumption
  iintro ⟨HO, HV4, Hp⟩
  unfold recvPay
  icases Hp with ⟨%f4, %hf4, Hp⟩
  ihave Hr4 := (Entails.of_eq (in_lit c (Fin.succ 4) 5 rfl inb_S8x512x256_S1x512x256_5_0_0 f4)) $$ Hp
  sl_exec
  iapply (step_recv m K c 5 rfl rfl _) $$ [HO HR5]
  · isplitr; · iexact Hkn
    isplitl [HO] <;> iassumption
  iintro ⟨HO, HV5, Hp⟩
  unfold recvPay
  icases Hp with ⟨%f5, %hf5, Hp⟩
  ihave Hr5 := (Entails.of_eq (in_lit c (Fin.succ 5) 6 rfl inb_S8x512x256_S1x512x256_6_0_0 f5)) $$ Hp
  sl_exec
  iapply (step_recv m K c 6 rfl rfl _) $$ [HO HR6]
  · isplitr; · iexact Hkn
    isplitl [HO] <;> iassumption
  iintro ⟨HO, HV6, Hp⟩
  unfold recvPay
  icases Hp with ⟨%f6, %hf6, Hp⟩
  ihave Hr6 := (Entails.of_eq (in_lit c (Fin.succ 6) 7 rfl inb_S8x512x256_S1x512x256_7_0_0 f6)) $$ Hp
  -- the seven slabs sent from
  sl_exec
  iapply (step_sent m K c 0 rfl (.inl rfl) _) $$ [HO HA0 HD0]
  · isplitr; · iexact Hkn
    isplitl [HO]; · iexact HO
    unfold backRes
    isplitl [HA0] <;> iassumption
  iintro ⟨HO, HU0, HP0⟩
  sl_exec
  iapply (step_sent m K c 1 rfl (.inl rfl) _) $$ [HO HA1 HD1]
  · isplitr; · iexact Hkn
    isplitl [HO]; · iexact HO
    unfold backRes
    isplitl [HA1] <;> iassumption
  iintro ⟨HO, HU1, HP1⟩
  sl_exec
  iapply (step_sent m K c 2 rfl (.inl rfl) _) $$ [HO HA2 HD2]
  · isplitr; · iexact Hkn
    isplitl [HO]; · iexact HO
    unfold backRes
    isplitl [HA2] <;> iassumption
  iintro ⟨HO, HU2, HP2⟩
  sl_exec
  iapply (step_sent m K c 3 rfl (.inl rfl) _) $$ [HO HA3 HD3]
  · isplitr; · iexact Hkn
    isplitl [HO]; · iexact HO
    unfold backRes
    isplitl [HA3] <;> iassumption
  iintro ⟨HO, HU3, HP3⟩
  sl_exec
  iapply (step_sent m K c 4 rfl (.inl rfl) _) $$ [HO HA4 HD4]
  · isplitr; · iexact Hkn
    isplitl [HO]; · iexact HO
    unfold backRes
    isplitl [HA4] <;> iassumption
  iintro ⟨HO, HU4, HP4⟩
  sl_exec
  iapply (step_sent m K c 5 rfl (.inl rfl) _) $$ [HO HA5 HD5]
  · isplitr; · iexact Hkn
    isplitl [HO]; · iexact HO
    unfold backRes
    isplitl [HA5] <;> iassumption
  iintro ⟨HO, HU5, HP5⟩
  sl_exec
  iapply (step_sent m K c 6 rfl (.inl rfl) _) $$ [HO HA6 HD6]
  · isplitr; · iexact Hkn
    isplitl [HO]; · iexact HO
    unfold backRes
    isplitl [HA6] <;> iassumption
  iintro ⟨HO, HU6, HP6⟩
  sl_exec
  rw [wp_ret]; imodintro
  iapply Hk
  have ho := rows_eight m c fo (rowsPiece_of (off3_back 6 c) (k0_off3_inb c 6) (received_of₆ 6 rfl)) (rowsPiece_of (off3_back 5 c) (k0_off3_inb c 5) (received_of₅ 5 rfl))
    (rowsPiece_of (off3_back 4 c) (k0_off3_inb c 4) (received_of₄ 4 rfl)) (rowsPiece_of (off3_back 3 c) (k0_off3_inb c 3) (received_of₃ 3 rfl))
    (rowsPiece_of (off3_back 2 c) (k0_off3_inb c 2) (received_of₂ 2 rfl)) (rowsPiece_of (off3_back 1 c) (k0_off3_inb c 1) (received_of₁ 1 rfl))
    (rowsPiece_of (off3_back 0 c) (k0_off3_inb c 0) (received_of 0 rfl)) (rowsPiece_of (k0_off2_eq c) (k0_off2_inb c) (kept_of (scales_read m c (by decide) (by decide)) (cast_read m c (by decide) (by decide) (by decide)) (slot_cols m c c 0 (off1_own c) (k0_off1_inb c 0) (slotM 0).view.junk [])))
  iexists _
  isplitl [HO]; · iexact HO
  unfold ownAfter sharedAfter
  rw [seven, seven, seven, seven]
  isplitl [Hx Ha Hb Ho Hw Hxq Hw0 Hw1 Hz0 Hz1]
  · isplitl [Hx]; · iexact Hx
    isplitl [Ha]; · iexact Ha
    isplitl [Hb]; · iexact Hb
    isplitl [Ho]
    · iapply (Entails.of_eq (congrArg (fun f => (oM.view.loc (c : Thread nD τ) ↦{fullShare} f : sProp 𝕄)) ho)); iexact Ho
    isplitl [Hw]; · iexact Hw
    isplitl [Hxq]; · iexists _; iexact Hxq
    isplitl [Hw0]; · iexists _; iexact Hw0
    isplitl [Hw1]; · iexists _; iexact Hw1
    isplitl [Hz0] <;> iassumption
  isplitl [HzB]; · iexact HzB
  isplitl [HU0 HU1 HU2 HU3 HU4 HU5 HU6]
  · isplitl [HU0]; · iexact HU0
    isplitl [HU1]; · iexact HU1
    isplitl [HU2]; · iexact HU2
    isplitl [HU3]; · iexact HU3
    isplitl [HU4]; · iexact HU4
    isplitl [HU5] <;> iassumption
  isplitl [HV0 HV1 HV2 HV3 HV4 HV5 HV6]
  · isplitl [HV0]; · iexact HV0
    isplitl [HV1]; · iexact HV1
    isplitl [HV2]; · iexact HV2
    isplitl [HV3]; · iexact HV3
    isplitl [HV4]; · iexact HV4
    isplitl [HV5] <;> iassumption
  isplitl [HP0 HP1 HP2 HP3 HP4 HP5 HP6]
  · unfold sendPay
    isplitl [HP0]; · iexact HP0
    isplitl [HP1]; · iexact HP1
    isplitl [HP2]; · iexact HP2
    isplitl [HP3]; · iexact HP3
    isplitl [HP4]; · iexact HP4
    isplitl [HP5] <;> iassumption
  isplitl [Hr0]; · iexists f0; iexact Hr0
  isplitl [Hr1]; · iexists f1; iexact Hr1
  isplitl [Hr2]; · iexists f2; iexact Hr2
  isplitl [Hr3]; · iexists f3; iexact Hr3
  isplitl [Hr4]; · iexists f4; iexact Hr4
  isplitl [Hr5]; · iexists f5; iexact Hr5
  iexists f6; iexact Hr6

end Cert.Exchange

end
-- ==== Proof.Deal.lean ====
/-
# Dealing at the launch

What a launch hands the devices, dealt out the way the body spends it: the semaphores at zero become the shared cells
under their invariants, the rights to pay travel from the device whose cell they are for to the device that pays, and
the units every device owes at launch are the credits the waits need.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The semaphores -/

/-- The kernel's scoped semaphores that no other device touches: the double buffer's two, and the first of each of the
    send and receive arrays, which nothing uses. -/
abbrev plainQ : Fin 4 → DmaSem sig := ![⟨4, by decide⟩, ⟨5, by decide⟩, ⟨6, by decide⟩, ⟨14, by decide⟩]

/-- All the kernel's scoped semaphores. -/
abbrev Scoped : Type := Fin 4 ⊕ (Fin 7 ⊕ Fin 7)
abbrev osem : Scoped → SemLoc sig := Sum.elim (fun i => .dma (plainQ i)) (Sum.elim (fun e => .dma (sendQ e)) (fun e => .dma (recvQ e)))

theorem osem_facts : Pipeline.OwnSemFacts cfg0.spec osem := by decide +kernel

/-- The plain semaphores at zero. -/
def plainSems (c : Dev nD) : sProp 𝕄 := bigSep Finset.univ fun i : Fin 4 => semVal ((c : Thread nD τ), .dma (plainQ i)) 0

theorem unscoped_eq (c : Dev nD) : (unscopedSems0 c : sProp 𝕄) = semVal (barCell c) 0 := by
  unfold unscopedSems0; rw [bigSep_eq_bigSepL_of_eq [SemLoc.reg barS] (by decide) (by decide)]; rfl

theorem scoped_eq (c : Dev nD) : (Pipeline.ownSems0 (Ix := Unit) (Name := ℕ) (U := UU) (Lvl := ℕ) (Val := Elt F) (τ := τ) osem c : sProp 𝕄)
    = iprop(plainSems c ∗ (bigSep Finset.univ fun e => semVal (sendCell c e) 0) ∗ bigSep Finset.univ fun e => semVal (recvCell c e) 0) := by
  unfold Pipeline.ownSems0 plainSems
  rw [bigSep_univ_sum, bigSep_univ_sum]; rfl

theorem shared_eq (Φ : GSem nD τ sig → sProp 𝕄) (c : Dev nD) : (bigSep Finset.univ fun k : Own => Φ (kcell (c, k)))
    = iprop(Φ (barCell c) ∗ (bigSep Finset.univ fun e => Φ (sendCell c e)) ∗ bigSep Finset.univ fun e => Φ (recvCell c e)) := by
  rw [bigSep_univ_sum, bigSep_univ_sum, bigSep_univ_of_subsingleton ()]; rfl

/-! ## The launch element -/

theorem csem_injective : Function.Injective csem := by decide +kernel
theorem kcell_injective : Function.Injective (kcell : Dev nD × Own → GSem nD τ sig) := fun ⟨c, k⟩ ⟨c', k'⟩ h => by
  have h1 : c = c' := congrArg (fun g : GSem nD τ sig => g.1.1) h
  exact Prod.ext h1 (csem_injective (congrArg Prod.snd h))
def sharedCells : Finset (GSem nD τ sig) := Finset.univ.map ⟨kcell, kcell_injective⟩

/-- The rights to pay, by the cell they are for: seven for a barrier, one for each end of a transfer. -/
abbrev Pay : Type := Fin 7 ⊕ (Fin 7 ⊕ Fin 7)
abbrev payAt (c : Dev nD) : Pay → GSem nD τ sig × ℕ × Fin 7 :=
  Sum.elim (fun d => (barCell c, 0, d)) (Sum.elim (fun e => (sendCell c e, 0, 0)) (fun e => (recvCell c e, 0, 0)))
theorem payKey_injective : Function.Injective (fun p : Pay => ((payAt 0 p).1.2, (payAt 0 p).2.2)) := by decide +kernel
theorem payAt_injective : Function.Injective (fun cp : Dev nD × Pay => payAt cp.1 cp.2) := fun ⟨c, p⟩ ⟨c', p'⟩ h => by
  have h1 : c = c' := by
    have := congrArg (fun x : GSem nD τ sig × ℕ × Fin 7 => x.1.1.1) h
    rcases p with p | p | p <;> rcases p' with p' | p' | p' <;> exact this
  refine Prod.ext h1 (payKey_injective ?_)
  have := congrArg (fun x : GSem nD τ sig × ℕ × Fin 7 => (x.1.2, x.2.2)) h
  rcases p with p | p | p <;> rcases p' with p' | p' | p' <;> exact this
def payRights : Finset (GSem nD τ sig × ℕ × Fin 7) := Finset.univ.map ⟨fun cp : Dev nD × Pay => payAt cp.1 cp.2, payAt_injective⟩

def u₀ : UU := (initOf (Pipeline.cells cfgs cellOf_inj) (Pipeline.launchToks cfgs cellOf_inj), (initOf sharedCells payRights, 1))

/-- The rights for device `c`'s cells, as minted. -/
def minted (c : Dev nD) : sProp 𝕄 :=
  iprop((bigSep Finset.univ fun d => dutyTok ER (barCell c) 0 d) ∗ (bigSep Finset.univ fun e => dutyTok ER (sendCell c e) 0 (0 : Fin 7))
    ∗ bigSep Finset.univ fun e => dutyTok ER (recvCell c e) 0 (0 : Fin 7))

/-- What the launch element deals device `c`. -/
def dealt (c : Dev nD) : sProp 𝕄 :=
  iprop((bigSep Finset.univ fun k : Own => roundState ER (rd m) (kcell (c, k)) 0) ∗ (bigSep Finset.univ fun k : Own => reached ER (kcell (c, k)) 0)
    ∗ (bigSep Finset.univ fun k : Own => atPos ER (kcell (c, k)) 0 ∅ 0) ∗ minted c)

theorem fund_shared : BI.own (ER (initOf sharedCells payRights)) ⊢ (|==> bigSep Finset.univ (dealt m) : sProp 𝕄) := by
  have hX (Φ : GSem nD τ sig → sProp 𝕄) : bigSep sharedCells Φ = bigSep Finset.univ fun c : Dev nD => bigSep Finset.univ fun k : Own => Φ (kcell (c, k)) := by
    unfold sharedCells; rw [bigSep_map, bigSep_univ_prod]; rfl
  have hT : bigSep payRights (fun x => (dutyTok ER x.1 x.2.1 x.2.2 : sProp 𝕄)) = bigSep Finset.univ fun c : Dev nD => minted c := by
    unfold payRights; rw [bigSep_map, bigSep_univ_prod]
    exact bigSep_congr fun c _ => by unfold minted; rw [bigSep_univ_sum, bigSep_univ_sum]; rfl
  have h := Rounds.fund ER (rd m) sharedCells payRights
  rw [hX, hX, hX, hT] at h
  unfold dealt
  rw [bigSep_sep', bigSep_sep', bigSep_sep']
  exact h

theorem own_u₀ : (ownU u₀ : sProp 𝕄)
    ⊢ iprop(BI.own (EP (initOf (Pipeline.cells cfgs cellOf_inj) (Pipeline.launchToks cfgs cellOf_inj))) ∗ BI.own (ER (initOf sharedCells payRights))) := by
  unfold u₀
  iintro Hu
  ihave H := (ownU_pair _ _) $$ Hu
  icases H with ⟨HP, HX⟩
  have h := own_pair_emb (embR : Emb (UB × Counters) 𝕄) (initOf sharedCells payRights) (1 : Counters)
  rw [show ((Emb.inl : Emb UB (UB × Counters)).trans (embR : Emb (UB × Counters) 𝕄)) = ER from rfl] at h
  ihave H' := h $$ HX
  icases H' with ⟨HX, -⟩
  isplitl [HP] <;> iassumption

theorem deal_u₀ : (ownU u₀ : sProp 𝕄)
    ⊢ |={Set.univ}=> iprop(BI.own (EP (initOf (Pipeline.cells cfgs cellOf_inj) (Pipeline.launchToks cfgs cellOf_inj))) ∗ bigSep Finset.univ (dealt m)) := by
  iintro Hu
  ihave H := own_u₀ $$ Hu
  icases H with ⟨HP, HX⟩
  imod (fund_shared m) $$ HX with HG
  imodintro
  isplitl [HP] <;> iassumption

/-! ## Cells under their invariants -/

/-- The shared cells' invariants allocated on device `c`; the plain semaphores stay as they are. -/
theorem alloc_cells (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : Own => iprop(∃ κ : ℕ, cellInv ER (rd m) κ (kcell (c, k))))
          ∗ (bigSep Finset.univ fun k : Own => reached ER (kcell (c, k)) 0) ∗ (bigSep Finset.univ fun k : Own => atPos ER (kcell (c, k)) 0 ∅ 0)
          ∗ minted c ∗ plainSems c) := by
  rw [scoped_eq, unscoped_eq]
  unfold dealt
  iintro ⟨⟨Hp, Hs, Hr⟩, Hb, Hst, Hre, Hat, Hmt⟩
  ihave Hv := (Entails.of_eq (shared_eq (F := F) (fun g => semVal g 0) c).symm) $$ [Hs Hr Hb]
  · isplitl [Hb]; · iexact Hb
    isplitl [Hs] <;> iassumption
  imod (show iprop((bigSep Finset.univ fun k : Own => semVal (kcell (c, k)) 0) ∗ bigSep Finset.univ fun k : Own => roundState ER (rd m) (kcell (c, k)) 0)
      ⊢ (|={Set.univ}=> bigSep Finset.univ fun k : Own => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hre]; · iexact Hre
  isplitl [Hat]; · iexact Hat
  isplitl [Hmt] <;> iassumption

/-! ## The rights to pay, to the devices that pay -/

/-- What device `c` pays with: a unit at every other device's barrier, and both ends of its seven transfers. -/
def payers (c : Dev nD) : sProp 𝕄 :=
  iprop((bigSep Finset.univ fun e : Fin 7 => dutyTok ER (barCell (shift e c)) 0 e.rev) ∗ (bigSep Finset.univ fun e => dutyTok ER (sendCell c e) 0 (0 : Fin 7))
    ∗ bigSep Finset.univ fun e => dutyTok ER (recvCell (shift e c) e) 0 (0 : Fin 7))

/-- A family over devices and offsets, each offset's turned by that offset. -/
theorem turn (Φ : Dev nD → Fin 7 → sProp 𝕄) :
    (bigSep Finset.univ fun c => bigSep Finset.univ fun e => Φ c e) = bigSep Finset.univ fun c => bigSep Finset.univ fun e => Φ (shift e c) e := by
  rw [bigSep_univ_comm, bigSep_univ_comm fun c e => Φ (shift e c) e]
  exact bigSep_congr fun e _ => bigSep_univ_equiv (rot e) fun c => Φ c e

theorem pay_around : (bigSep Finset.univ fun c : Dev nD => (minted c : sProp 𝕄)) = bigSep Finset.univ fun c : Dev nD => payers c := by
  unfold minted payers
  rw [bigSep_sep', bigSep_sep', bigSep_sep', bigSep_sep', turn fun c e => (dutyTok ER (recvCell c e) 0 (0 : Fin 7) : sProp 𝕄),
    bigSep_congr (Φ := fun c : Dev nD => bigSep Finset.univ fun d : Fin 7 => (dutyTok ER (barCell c) 0 d : sProp 𝕄))
      (fun c _ => bigSep_univ_equiv Fin.revPerm fun d : Fin 7 => (dutyTok ER (barCell c) 0 d : sProp 𝕄)),
    turn fun c e => (dutyTok ER (barCell c) 0 (Fin.revPerm e) : sProp 𝕄)]
  rfl

/-- What device `c` starts the exchange with, beside the credits. -/
def ready (c : Dev nD) : sProp 𝕄 :=
  iprop((∃ K, known m K) ∗ (bigSep Finset.univ fun k : Own => atPos ER (kcell (c, k)) 0 ∅ 0) ∗ payers c ∗ plainSems c)

theorem gather :
    (bigSep Finset.univ fun c : Dev nD => iprop((bigSep Finset.univ fun k : Own => iprop(∃ κ : ℕ, cellInv ER (rd m) κ (kcell (c, k))))
          ∗ (bigSep Finset.univ fun k : Own => reached ER (kcell (c, k)) 0) ∗ (bigSep Finset.univ fun k : Own => atPos ER (kcell (c, k)) 0 ∅ 0)
          ∗ minted c ∗ plainSems c) : sProp 𝕄)
      ⊢ bigSep Finset.univ (ready m) := by
  rw [bigSep_sep', bigSep_sep', bigSep_sep', bigSep_sep', pay_around,
    ← bigSep_univ_prod (fun ck : Dev nD × Own => iprop(∃ κ : ℕ, cellInv ER (rd m) κ (kcell ck))),
    ← bigSep_univ_prod (fun ck : Dev nD × Own => (reached ER (kcell ck) 0 : sProp 𝕄))]
  iintro ⟨HI, #HR, Hat, Hpay, Hpl⟩
  ihave HK := (BI.bigSep_exists_pi Finset.univ (fun (ck : Dev nD × Own) (κ : ℕ) => (cellInv ER (rd m) κ (kcell ck) : sProp 𝕄))) $$ HI
  icases HK with ⟨%K, #HI⟩
  iapply (BI.bigSep_with_persistent (R := known m K)
    (Φ := fun c => iprop((bigSep Finset.univ fun k : Own => atPos ER (kcell (c, k)) 0 ∅ 0) ∗ payers c ∗ plainSems c))
    fun c _ => by
      unfold ready
      iintro ⟨HK, H⟩
      isplitl [HK]; · iexists K; iexact HK
      iexact H)
  isplitr
  · unfold known; isplitl; · iexact HI
    iexact HR
  · rw [bigSep_sep', bigSep_sep']
    isplitl [Hat]; · iexact Hat
    isplitl [Hpay] <;> iassumption

theorem ready_all : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ready m) :=
  ((bigSep_mono fun c _ => alloc_cells m c).trans (bigSep_fupd _ _)).trans (BI.fupd_mono (gather m))

/-! ## The units owed at launch -/

theorem reverse_sum {M : Type} [AddCommMonoid M] (a b c d e f g : M) : g + f + e + d + c + b + a = a + b + c + d + e + f + g := by ac_rfl

theorem reverse_sum' {M : Type} [AddCommMonoid M] (x a b c d e f g : M) :
    x + g + f + e + d + c + b + a = x + (a + b + c + d + e + f + g) := by ac_rfl

theorem owedR_sum (d : Dev nD) : owedR d 7 = ∑ e, tallyAt (recvCell (shift e d) e) () N := by
  rw [Fin.sum_univ_seven]; simp only [owedR]
  show _ + tallyAt (recvCell (shift 6 d) 6) () N + tallyAt (recvCell (shift 5 d) 5) () N + tallyAt (recvCell (shift 4 d) 4) () N + tallyAt (recvCell (shift 3 d) 3) () N
    + tallyAt (recvCell (shift 2 d) 2) () N + tallyAt (recvCell (shift 1 d) 1) () N + tallyAt (recvCell (shift 0 d) 0) () N = _
  rw [zero_add]; exact reverse_sum _ _ _ _ _ _ _
theorem owed_sum (d : Dev nD) : O₀ d = (∑ e, tallyAt (recvCell (shift e d) e) () N) + ∑ e, tallyAt (barCell (shift e d)) () 1 := by
  rw [← owedR_sum, Fin.sum_univ_seven]; unfold O₀; simp only [owedB]
  show owedR d 7 + tallyAt (barCell (shift 6 d)) () 1 + tallyAt (barCell (shift 5 d)) () 1 + tallyAt (barCell (shift 4 d)) () 1 + tallyAt (barCell (shift 3 d)) () 1
    + tallyAt (barCell (shift 2 d)) () 1 + tallyAt (barCell (shift 1 d)) () 1 + tallyAt (barCell (shift 0 d)) () 1 = _
  exact reverse_sum' _ _ _ _ _ _ _ _

theorem tally_sum_apply {ι : Type} [Fintype ι] (f : ι → CellTallies nD τ sig Unit) (g : GSem nD τ sig) (u : Unit) : (∑ e, f e) g u = ∑ e, f e g u := by
  rw [Finset.sum_apply, Finsupp.finset_sum_apply]

theorem bar_iff {a b : Dev nD} : barCell a = barCell b ↔ a = b := ⟨fun h => congrArg (fun g : GSem nD τ sig => g.1.1) h, fun h => h ▸ rfl⟩
theorem recv_iff {a b : Dev nD} {e e' : Fin 7} : recvCell a e = recvCell b e' ↔ a = b ∧ e = e' :=
  ⟨fun h => ⟨congrArg (fun g : GSem nD τ sig => g.1.1) h, recvQ_inj _ _ (congrArg Prod.snd h)⟩, fun ⟨h, h'⟩ => by rw [h, h']⟩

theorem credit_bar (c : Dev nD) : (∑ d : Dev nD, O₀ d (barCell c) ()) = 7 := by
  have h : ∀ d : Dev nD, O₀ d (barCell c) () = ∑ e, if c = shift e d then 1 else 0 := fun d => by
    rw [owed_sum, Pi.add_apply, Finsupp.add_apply, tally_sum_apply, tally_sum_apply, Finset.sum_eq_zero, Nat.zero_add]
    · exact Finset.sum_congr rfl fun e _ => by rw [tallyAt_apply]; simp only [bar_iff, and_true]
    · intro e _; rw [tallyAt_apply, if_neg fun h => dma_ne_bar _ (congrArg Prod.snd h.1).symm]
  rw [Finset.sum_congr rfl fun d _ => h d]
  clear h; revert c; decide +kernel

theorem credit_recv (c : Dev nD) (e : Fin 7) : (∑ d : Dev nD, O₀ d (recvCell c e) ()) = N := by
  have h : ∀ d : Dev nD, O₀ d (recvCell c e) () = if back e c = d then N else 0 := fun d => by
    rw [owed_sum, Pi.add_apply, Finsupp.add_apply, tally_sum_apply, tally_sum_apply, Finset.sum_eq_single e, Finset.sum_eq_zero, Nat.add_zero]
    · rw [tallyAt_apply]
      refine if_congr ?_ rfl rfl
      rw [recv_iff]
      exact ⟨fun h => by rw [h.1.1, back_shift], fun h => ⟨⟨by rw [← h, shift_back], rfl⟩, rfl⟩⟩
    · intro e' _; rw [tallyAt_apply, if_neg fun h => dma_ne_bar _ (congrArg Prod.snd h.1)]
    · intro e' _ he; rw [tallyAt_apply, if_neg fun h => he (recv_iff.mp h.1).2.symm]
    · intro h; exact absurd (Finset.mem_univ e) h
  rw [Finset.sum_congr rfl fun d _ => h d, Finset.sum_ite_eq Finset.univ (back e c) fun _ => N, if_pos (Finset.mem_univ _)]

theorem launch_at (c : Dev nD) (sm : SemLoc sig) (n : ℕ) (h : (∑ d : Dev nD, O₀ d ((c : Thread nD τ), sm) ()) = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, h]

/-- The credits of device `c`: seven units at its barrier, a block at each of its receive cells. -/
def credits (c : Dev nD) : sProp 𝕄 :=
  iprop(cred (tallyAt (barCell c) () 7) ∗ bigSep Finset.univ fun e => cred (tallyAt (recvCell c e) () N))

theorem credits_intro (c : Dev nD) : (Pipeline.launchCred O₀ c : sProp 𝕄) ⊢ credits c := by
  unfold Pipeline.launchCred credits
  rw [bigSep_univ_split (SemLoc.reg barS), launch_at c _ _ (credit_bar c)]
  refine sep_mono_right ((bigSep_subset (t := Finset.univ.map ⟨fun e : Fin 7 => (SemLoc.dma (recvQ e) : SemLoc sig), fun _ _ h => recvQ_inj _ _ h⟩) ?_).trans ?_)
  · intro s hs
    obtain ⟨e, -, rfl⟩ := Finset.mem_map.mp hs
    exact Finset.mem_erase.mpr ⟨dma_ne_bar _, Finset.mem_univ _⟩
  · rw [bigSep_map]
    exact bigSep_mono fun e _ => show _ ⊢ _ from Entails.of_eq (congrArg cred (launch_at c _ _ (credit_recv c e)))

/-! ## Buffers cut into slabs and slots -/

/-- Every element of the outgoing buffer is in one of its slabs, -/
theorem out_cover (c : Dev nD) : (Finset.univ : Finset (Idx (cM.view.loc (c : Thread nD τ)))) = Finset.univ.biUnion fun k : Fin 8 => outSet k := by
  refine (Finset.eq_univ_of_forall fun i => ?_).symm
  obtain ⟨j, -, rfl⟩ := Finset.mem_map.mp ((View.setOn_whole_univ cc0_scratch2).symm ▸ Finset.mem_univ i : i ∈ cM.view.setOn Finset.univ)
  obtain ⟨k, hk, hj⟩ := Finset.mem_biUnion.mp (slab_cover ▸ Finset.mem_univ j : j ∈ Finset.univ.biUnion fun k : Fin 8 => (slabR k).set)
  exact Finset.mem_biUnion.mpr ⟨k, hk, Finset.mem_map_of_mem _ hj⟩
/-- and every element of the landing buffer. -/
theorem in_cover (c : Dev nD) : (Finset.univ : Finset (Idx (rM.view.loc (c : Thread nD τ)))) = Finset.univ.biUnion fun k : Fin 8 => inSet k := by
  refine (Finset.eq_univ_of_forall fun i => ?_).symm
  obtain ⟨j, -, rfl⟩ := Finset.mem_map.mp ((View.setOn_whole_univ cc0_scratch3).symm ▸ Finset.mem_univ i : i ∈ rM.view.setOn Finset.univ)
  obtain ⟨k, hk, hj⟩ := Finset.mem_biUnion.mp (slab_cover ▸ Finset.mem_univ j : j ∈ Finset.univ.biUnion fun k : Fin 8 => (slabR k).set)
  exact Finset.mem_biUnion.mpr ⟨k, hk, Finset.mem_map_of_mem _ hj⟩

theorem out_slabs (c : Dev nD) (f : Buf (Elt F) (cM.view.loc (c : Thread nD τ))) :
    (cM.view.loc (c : Thread nD τ) ↦{fullShare} f : sProp 𝕄) = bigSep Finset.univ fun k : Fin 8 => outSlab c k f := by
  rw [← pointsTo_biUnion _ _ fun k _ k' _ hk => View.disjoint_setOn _ (slab_disjoint k k' hk), ← out_cover c]
theorem in_slabs (c : Dev nD) (f : Buf (Elt F) (rM.view.loc (c : Thread nD τ))) :
    (rM.view.loc (c : Thread nD τ) ↦{fullShare} f : sProp 𝕄) = bigSep Finset.univ fun k : Fin 8 => inSlab c k f := by
  rw [← pointsTo_biUnion _ _ fun k _ k' _ hk => View.disjoint_setOn _ (slab_disjoint k k' hk), ← in_cover c]

/-- A family of eight, its first apart. -/
theorem first_apart (Φ : Fin 8 → sProp 𝕄) : bigSep Finset.univ Φ = iprop(Φ 0 ∗ bigSep Finset.univ fun e : Fin 7 => Φ e.succ) := by
  rw [Fin.univ_succ, Finset.cons_eq_insert, bigSep_insert (by simp), bigSep_map]; rfl

/-- The outgoing buffer taken apart: the slab nothing is sent from, and the seven that are sent; -/
theorem out_open (c : Dev nD) : iprop(∃ f, cM.view.loc (c : Thread nD τ) ↦{fullShare} f)
    ⊢ (iprop((∃ f, outSlab c 0 f) ∗ bigSep Finset.univ fun e : Fin 7 => iprop(∃ f, outSlab c e.succ f)) : sProp 𝕄) := by
  iintro ⟨%f, H⟩
  ihave H := (Entails.of_eq ((out_slabs c f).trans (first_apart _))) $$ H
  icases H with ⟨H0, H⟩
  isplitl [H0]; · iexists f; iexact H0
  iapply (show (bigSep Finset.univ fun e : Fin 7 => outSlab c e.succ f : sProp 𝕄) ⊢ bigSep Finset.univ fun e : Fin 7 => iprop(∃ f, outSlab c e.succ f) from
    bigSep_mono fun e _ => exists_intro (Φ := fun f => outSlab c e.succ f) f)
  iexact H
/-- the landing buffer likewise. -/
theorem in_open (c : Dev nD) : iprop(∃ f, rM.view.loc (c : Thread nD τ) ↦{fullShare} f)
    ⊢ (iprop((∃ f, inSlab c 0 f) ∗ bigSep Finset.univ fun e : Fin 7 => iprop(∃ f, inSlab c e.succ f)) : sProp 𝕄) := by
  iintro ⟨%f, H⟩
  ihave H := (Entails.of_eq ((in_slabs c f).trans (first_apart _))) $$ H
  icases H with ⟨H0, H⟩
  isplitl [H0]; · iexists f; iexact H0
  iapply (show (bigSep Finset.univ fun e : Fin 7 => inSlab c e.succ f : sProp 𝕄) ⊢ bigSep Finset.univ fun e : Fin 7 => iprop(∃ f, inSlab c e.succ f) from
    bigSep_mono fun e _ => exists_intro (Φ := fun f => inSlab c e.succ f) f)
  iexact H

/-- The outgoing buffer put together again, -/
theorem out_close (c : Dev nD) : (iprop((∃ f, outSlab c 0 f) ∗ bigSep Finset.univ fun e : Fin 7 => iprop(∃ f, outSlab c e.succ f)) : sProp 𝕄)
    ⊢ iprop(∃ f, cM.view.loc (c : Thread nD τ) ↦{fullShare} f) := by
  refine (Entails.of_eq (first_apart fun k => iprop(∃ f, outSlab c k f)).symm).trans ?_
  iintro H
  ihave H := (BI.bigSep_exists_pi Finset.univ fun (k : Fin 8) f => outSlab c k f) $$ H
  icases H with ⟨%fs, H⟩
  ihave H := (pointsTo_biUnion_join Finset.univ outSet fs (fs 0) fun k _ k' _ hk => View.disjoint_setOn _ (slab_disjoint k k' hk)) $$ H
  icases H with ⟨%g, -, H⟩
  iexists g
  ihave H := (Entails.of_eq (congrArg (fun I => (cM.view.loc (c : Thread nD τ) ↦[I]{fullShare} g : sProp 𝕄)) (out_cover c).symm)) $$ H
  iexact H
/-- and the landing buffer. -/
theorem in_close (c : Dev nD) : (iprop((∃ f, inSlab c 0 f) ∗ bigSep Finset.univ fun e : Fin 7 => iprop(∃ f, inSlab c e.succ f)) : sProp 𝕄)
    ⊢ iprop(∃ f, rM.view.loc (c : Thread nD τ) ↦{fullShare} f) := by
  refine (Entails.of_eq (first_apart fun k => iprop(∃ f, inSlab c k f)).symm).trans ?_
  iintro H
  ihave H := (BI.bigSep_exists_pi Finset.univ fun (k : Fin 8) f => inSlab c k f) $$ H
  icases H with ⟨%fs, H⟩
  ihave H := (pointsTo_biUnion_join Finset.univ inSet fs (fs 0) fun k _ k' _ hk => View.disjoint_setOn _ (slab_disjoint k k' hk)) $$ H
  icases H with ⟨%g, -, H⟩
  iexists g
  ihave H := (Entails.of_eq (congrArg (fun I => (rM.view.loc (c : Thread nD τ) ↦[I]{fullShare} g : sProp 𝕄)) (in_cover c).symm)) $$ H
  iexact H

end Cert.Exchange

end
-- ==== Proof.Launch.lean ====
/-
# The run of the module

The body's run (Body.lean) under the launch: the buffers a launch gives a device are cut into what the body holds and
put together again after it, and the kernel's result is `resultOf` on every device, in every execution, with the
arguments unchanged and every semaphore at zero.
-/
module

public import proofs.«01_k».proof.Proof.Body
public import proofs.«01_k».proof.Proof.Deal
public import Idealize.ShloMosaic.Lib.Pipeline.ValueKit
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The double buffer cut into its slots -/

abbrev slotSet (s : Fin 2) := wbM.view.setOn (slotR s).set

theorem slotM_set (s : Fin 2) : (slotM s).view.set = slotSet s := by
  rw [Memref.set_view_squeeze]; exact View.set_slice _ _

theorem slot_disjoint (s s' : Fin 2) (h : s ≠ s') : Disjoint (slotR s).set (slotR s').set :=
  Ring.lead_disjoint (s := S2x4096x256) (R := 1) (NB := 2) (a₀ := (0 : Fin 3)) (off := fun b : Fin 2 => ![b.val, 0, 0])
    (size := S1x4096x256.size) (inb := slot_inb) (fun b => by simp) rfl s s' h

theorem slot_cover : Finset.univ.biUnion (fun s : Fin 2 => (slotR s).set) = Finset.univ :=
  Ring.lead_cover (s := S2x4096x256) (R := 1) (NB := 2) (a₀ := (0 : Fin 3)) (off := fun b : Fin 2 => ![b.val, 0, 0])
    (size := S1x4096x256.size) (inb := slot_inb) (fun b => by simp) (fun b a ha => by fin_cases a <;> first | rfl | exact absurd rfl ha)
    rfl (fun a ha => by fin_cases a <;> first | rfl | exact absurd rfl ha) rfl

theorem double_cover (c : Dev nD) : (Finset.univ : Finset (Idx (wbM.view.loc (c : Thread nD τ)))) = Finset.univ.biUnion fun s : Fin 2 => slotSet s := by
  refine (Finset.eq_univ_of_forall fun i => ?_).symm
  obtain ⟨j, -, rfl⟩ := Finset.mem_map.mp ((View.setOn_whole_univ cc0_scratch1).symm ▸ Finset.mem_univ i : i ∈ wbM.view.setOn Finset.univ)
  obtain ⟨k, hk, hj⟩ := Finset.mem_biUnion.mp (slot_cover ▸ Finset.mem_univ j : j ∈ Finset.univ.biUnion fun s : Fin 2 => (slotR s).set)
  exact Finset.mem_biUnion.mpr ⟨k, hk, Finset.mem_map_of_mem _ hj⟩

/-- Slot `s` held, as the copies name it. -/
theorem slot_held (c : Dev nD) (s : Fin 2) (f : Buf (Elt F) (wbM.view.loc (c : Thread nD τ))) :
    (wbM.view.loc (c : Thread nD τ) ↦[slotSet s]{fullShare} f : sProp 𝕄) = ((slotM s).view.loc (c : Thread nD τ) ↦[(slotM s).view.set]{fullShare} f) := by
  rw [slotM_set]

theorem double_open (c : Dev nD) : iprop(∃ f, wbM.view.loc (c : Thread nD τ) ↦{fullShare} f)
    ⊢ (iprop((∃ f, (slotM 0).view.loc (c : Thread nD τ) ↦[(slotM 0).view.set]{fullShare} f) ∗ (∃ f, (slotM 1).view.loc (c : Thread nD τ) ↦[(slotM 1).view.set]{fullShare} f)) : sProp 𝕄) := by
  iintro ⟨%f, H⟩
  ihave H := (Entails.of_eq (show (wbM.view.loc (c : Thread nD τ) ↦[Finset.univ]{fullShare} f : sProp 𝕄)
      = iprop((wbM.view.loc (c : Thread nD τ) ↦[slotSet 0]{fullShare} f) ∗ (wbM.view.loc (c : Thread nD τ) ↦[slotSet 1]{fullShare} f)) from by
    rw [double_cover c, pointsTo_biUnion _ _ fun k _ k' _ hk => View.disjoint_setOn _ (slot_disjoint k k' hk), bigSep_fin_two]; rfl)) $$ H
  icases H with ⟨H0, H1⟩
  isplitl [H0]
  · iexists f; rw [← slot_held c 0 f]; iexact H0
  · iexists f; rw [← slot_held c 1 f]; iexact H1

theorem double_close (c : Dev nD) :
    (iprop((∃ f, (slotM 0).view.loc (c : Thread nD τ) ↦[(slotM 0).view.set]{fullShare} f) ∗ (∃ f, (slotM 1).view.loc (c : Thread nD τ) ↦[(slotM 1).view.set]{fullShare} f)) : sProp 𝕄)
      ⊢ iprop(∃ f, wbM.view.loc (c : Thread nD τ) ↦{fullShare} f) := by
  iintro ⟨⟨%f, H0⟩, ⟨%g, H1⟩⟩
  ihave H0 := (Entails.of_eq (slot_held c 0 f).symm) $$ H0
  ihave H1 := (Entails.of_eq (slot_held c 1 g).symm) $$ H1
  ihave H := (Entails.of_eq (show iprop((wbM.view.loc (c : Thread nD τ) ↦[slotSet 0]{fullShare} f) ∗ (wbM.view.loc (c : Thread nD τ) ↦[slotSet 1]{fullShare} g))
      = bigSep Finset.univ fun s : Fin 2 => (wbM.view.loc (c : Thread nD τ) ↦[slotSet s]{fullShare} (![f, g] s) : sProp 𝕄) from
      (bigSep_fin_two fun s : Fin 2 => (wbM.view.loc (c : Thread nD τ) ↦[slotSet s]{fullShare} (![f, g] s) : sProp 𝕄)).symm)) $$ [H0 H1]
  · isplitl [H0] <;> iassumption
  ihave H := (pointsTo_biUnion_join Finset.univ slotSet ![f, g] f fun k _ k' _ hk => View.disjoint_setOn _ (slot_disjoint k k' hk)) $$ H
  icases H with ⟨%h, -, H⟩
  iexists h
  ihave H := (Entails.of_eq (congrArg (fun I => (wbM.view.loc (c : Thread nD τ) ↦[I]{fullShare} h : sProp 𝕄)) (double_cover c).symm)) $$ H
  iexact H

/-! ## What a device holds before and after its body -/

/-- The kernel's scratch buffers, each whole at some contents. -/
def scratch (c : Dev nD) : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f) ∗ (∃ f, (c : Thread nD τ).loc cc0_scratch3 ↦{fullShare} f))

/-- Before: what the launch dealt, the credits, and the weights, -/
def begun (c : Dev nD) : sProp 𝕄 :=
  iprop(ready m c ∗ credits c ∗ levAts L lv ∗ ((c : Thread nD τ).loc main_arg1 ↦{fullShare} m ((c : Thread nD τ).loc main_arg1)))
def Φ₀ (c : Dev nD) : sProp 𝕄 := iprop(begun m c ∗ scratch c)
/-- after: the weights and every semaphore at zero. -/
def Φ₁ (c : Dev nD) : sProp 𝕄 :=
  iprop(((c : Thread nD τ).loc main_arg1 ↦{fullShare} m ((c : Thread nD τ).loc main_arg1)) ∗ semVal (barCell c) 0
    ∗ (plainSems c ∗ (bigSep Finset.univ fun e => semVal (sendCell c e) 0) ∗ bigSep Finset.univ fun e => semVal (recvCell c e) 0) ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => m ((c : Thread nD τ).loc main_arg0)
    | ⟨1, _⟩ => m ((c : Thread nD τ).loc main_arg2)
    | ⟨2, _⟩ => m ((c : Thread nD τ).loc main_arg3)
    | ⟨3, _⟩ => resultOf m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The one block of `x` is at the origin. -/
theorem origin0 : ∀ t : Fin cfg0.N, win0_0.index t = ![0, 0] := (by decide +kernel : ∀ t : Fin grid0.N, _)
/-- What an input's staging buffer holds when the body starts is its whole array. -/
theorem fetched_x (c : Dev nD) (d) : (dats m ρ 0 c).before (0 : Fin 4) t0_0 d = m ((c : Thread nD τ).loc main_arg0) := by
  unfold Dat.before; rw [if_pos (fetch0_0 t0_0)]
  funext j
  exact congrArg (m ((c : Thread nD τ).loc main_arg0)) (funext fun a => Fin.ext (by fin_cases a <;> blk_simp [origin0 t0_0] <;> first | rfl | omega))
theorem fetched_a (c : Dev nD) (d) : (dats m ρ 0 c).before (1 : Fin 4) t0_0 d = m ((c : Thread nD τ).loc main_arg2) := by
  unfold Dat.before; rw [if_pos (fetch0_1 t0_0)]
  funext j
  exact congrArg (m ((c : Thread nD τ).loc main_arg2)) (funext fun a => Fin.ext (by fin_cases a <;> blk_simp <;> rfl))
theorem fetched_b (c : Dev nD) (d) : (dats m ρ 0 c).before (2 : Fin 4) t0_0 d = m ((c : Thread nD τ).loc main_arg3) := by
  unfold Dat.before; rw [if_pos (fetch0_2 t0_0)]
  funext j
  exact congrArg (m ((c : Thread nD τ).loc main_arg3)) (funext fun a => Fin.ext (by fin_cases a <;> blk_simp <;> rfl))

/-- What the body starts from, out of what the launch dealt. -/
theorem signals_intro (c : Dev nD) :
    iprop((bigSep Finset.univ fun e : Fin 7 => dutyTok ER (barCell (shift e c)) 0 e.rev) ∗ bigSep Finset.univ fun e : Fin 7 => iprop(∃ f, inSlab c e.succ f))
      ⊢ (bigSep Finset.univ fun e => signalRes c e : sProp 𝕄) := by
  rw [bigSep_univ_equiv Fin.revPerm fun e : Fin 7 => (iprop(∃ f, inSlab c e.succ f) : sProp 𝕄)]
  unfold signalRes
  rw [bigSep_sep']
  iintro ⟨H, H'⟩
  isplitl [H]; · iexact H
  iexact H'

theorem plain_eq (c : Dev nD) : (plainSems c : sProp 𝕄)
    = iprop(semVal ((c : Thread nD τ), .dma (⟨4, by decide⟩ : DmaSem sig)) 0 ∗ semVal ((c : Thread nD τ), .dma (⟨5, by decide⟩ : DmaSem sig)) 0
      ∗ semVal ((c : Thread nD τ), .dma (⟨6, by decide⟩ : DmaSem sig)) 0 ∗ semVal ((c : Thread nD τ), .dma (⟨14, by decide⟩ : DmaSem sig)) 0) :=
  bigSep_univ_eq_bigSepL [(0 : Fin 4), (1 : Fin 4), (2 : Fin 4), (3 : Fin 4)] (by decide) (by decide) _

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))
def bodyPost (c : Dev nD) : sProp 𝕄 :=
  iprop(Φ₁ m c ∗ (dats m ρ 0 c).owesAt () t0_0.succ
    ∗ stg c cc0_stg0_0 (m ((c : Thread nD τ).loc main_arg0)) ∗ stg c cc0_stg1_0 (m ((c : Thread nD τ).loc main_arg2))
    ∗ stg c cc0_stg2_0 (m ((c : Thread nD τ).loc main_arg3)) ∗ stg c cc0_stg3_0 (resultOf m c))

set_option maxRecDepth 16384 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ wp frame (wpE (defs₀ (F := F)) 𝒱₀ c none) Set.univ
    (cc0_body xM (Memref.isWhole_whole _) wM (Memref.isWhole_whole _) aM (Memref.isWhole_whole _) bM (Memref.isWhole_whole _)
      oM (Memref.isWhole_whole _) xqM (Memref.isWhole_whole _) wbM (Memref.isWhole_whole _) cM (Memref.isWhole_whole _)
      rM (Memref.isWhole_whole _) cc0_scratch4 cc0_scratch5 cc0_scratch6) (fun _ => bodyPost m ρ c)
  unfold bodyPre Φ₀ begun ready credits payers scratch Dat.owesAt Pipeline.owesWithin
  simp only [fetched_x, fetched_a, fetched_b]
  iintro ⟨⟨⟨⟨⟨%K, #Hkn⟩, Hat, ⟨Hbt, Hst, Hrt⟩, Hpl⟩, ⟨HcB, HcR⟩, #Hlev, Hw⟩, ⟨Hs0, Hs1, Hs2, Hs3⟩⟩, ⟨%W, %hW, HO⟩,
    ⟨%_, %g0, %hg0, Hx⟩, ⟨%_, %g1, %hg1, Ha⟩, ⟨%_, %g2, %hg2, Hb⟩, ⟨%_, %g3, -, Ho⟩⟩
  subst hg0 hg1 hg2
  ihave Hat := (Entails.of_eq (shared_eq (F := F) (fun g => atPos ER g 0 ∅ 0) c)) $$ Hat
  icases Hat with ⟨HaB, HaS, HaR⟩
  ihave Hs1 := (double_open c) $$ Hs1
  icases Hs1 with ⟨Hd0, Hd1⟩
  ihave Hs2 := (out_open c) $$ Hs2
  icases Hs2 with ⟨Hc0, Hcs⟩
  ihave Hs3 := (in_open c) $$ Hs3
  icases Hs3 with ⟨Hr0, Hrs⟩
  ihave Hsig := (signals_intro c) $$ [Hbt Hrs]
  · isplitl [Hbt] <;> iassumption
  ihave Hpl := (Entails.of_eq (plain_eq c)) $$ Hpl
  icases Hpl with ⟨Hz0, Hz1, Hz2, Hz3⟩
  iapply (run m K c (fun _ => bodyPost m ρ c) W)
  isplitr; · iexact Hkn
  isplitr; · iexact Hlev
  isplitl [HO]; · iexact HO
  isplitl [Hx Ha Hb Ho Hw Hs0 Hd0 Hd1 Hz0 Hz1]
  · unfold ownBefore
    isplitl [Hx]; · iexact Hx
    isplitl [Ha]; · iexact Ha
    isplitl [Hb]; · iexact Hb
    isplitl [Ho]; · iexists g3; iexact Ho
    isplitl [Hw]; · iexact Hw
    isplitl [Hs0]; · iexact Hs0
    isplitl [Hd0]; · iexact Hd0
    isplitl [Hd1]; · iexact Hd1
    isplitl [Hz0]; · iexact Hz0
    iexact Hz1
  isplitl [HcB HaB Hsig Hst Hrt HaR HcR HaS Hcs]
  · unfold sharedBefore sendRes recvRes
    isplitl [HcB]; · iexact HcB
    isplitl [HaB]; · iexact HaB
    isplitl [Hsig]; · iexact Hsig
    isplitl [Hst Hrt]
    · iapply (Entails.of_eq (bigSep_sep' Finset.univ (fun e : Fin 7 => (dutyTok ER (sendCell c e) 0 (0 : Fin 7) : sProp 𝕄)) fun e => dutyTok ER (recvCell (shift e c) e) 0 (0 : Fin 7)).symm)
      isplitl [Hst] <;> iassumption
    isplitl [HaR HcR]
    · iapply (Entails.of_eq (bigSep_sep' Finset.univ (fun e : Fin 7 => (atPos ER (recvCell c e) 0 ∅ 0 : sProp 𝕄)) fun e => cred (tallyAt (recvCell c e) () N)).symm)
      isplitl [HaR] <;> iassumption
    isplitl [HaS] <;> iassumption
  unfold ownAfter sharedAfter
  iintro ⟨%W', HO, ⟨Hx, Ha, Hb, Ho, Hw, Hs0, Hd0, Hd1, Hz0, Hz1⟩, HzB, HzS, HzR, Hcs, Hrs⟩
  ihave Hs1 := (double_close c) $$ [Hd0 Hd1]
  · isplitl [Hd0] <;> iassumption
  ihave Hs2 := (out_close c) $$ [Hc0 Hcs]
  · isplitl [Hc0] <;> iassumption
  ihave Hs3 := (in_close c) $$ [Hr0 Hrs]
  · isplitl [Hr0] <;> iassumption
  ihave Hpl := (Entails.of_eq (plain_eq c).symm) $$ [Hz0 Hz1 Hz2 Hz3]
  · isplitl [Hz0]; · iexact Hz0
    isplitl [Hz1]; · iexact Hz1
    isplitl [Hz2] <;> iassumption
  unfold bodyPost Φ₁ scratch Dat.owesAt Pipeline.owesWithin
  isplitl [Hw HzB Hpl HzS HzR Hs0 Hs1 Hs2 Hs3]
  · isplitl [Hw]; · iexact Hw
    isplitl [HzB]; · iexact HzB
    isplitl [Hpl HzS HzR]
    · isplitl [Hpl]; · iexact Hpl
      isplitl [HzS] <;> iassumption
    isplitl [Hs0]; · iexact Hs0
    isplitl [Hs1]; · iexact Hs1
    isplitl [Hs2]; · iexact Hs2
    iexact Hs3
  isplitl [HO]
  · iexists W'
    isplitr; · ipureintro; exact fun _ _ => Or.inl trivial
    iexact HO
  isplitl [Hx]; · iexists _; isplitr; · (ipureintro; rfl)
                  iexact Hx
  isplitl [Ha]; · iexists _; isplitr; · (ipureintro; rfl)
                  iexact Ha
  isplitl [Hb]; · iexists _; isplitr; · (ipureintro; rfl)
                  iexact Hb
  iexists _; isplitr; · (ipureintro; rfl)
  iexact Ho

/-! ## The launch -/

theorem share_eq (c : Dev nD) (w : Fin cfg0.W) : (dats m ρ 0 c).share w = fullShare := by unfold Dat.share; split <;> rfl

/-- Of a device's buffers no window stages only the weights are left, and they stay where they are. -/
theorem begun_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m c)
      ⊢ |={Set.univ}=> iprop(begun m c ∗ emp) := by
  rw [Pipeline.unscopedRestP_none, unscopedRest0_eq]
  iintro ⟨Hw, Hlev, Hcr, -, HG⟩
  ihave Hc := (credits_intro (F := F) c) $$ Hcr
  imodintro
  unfold begun
  isplitl
  · isplitl [HG]; · iexact HG
    isplitl [Hc]; · iexact Hc
    isplitl [Hlev] <;> iassumption
  · iempintro

theorem enter (c : Dev nD) :
    iprop(begun m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

/-- What a device is left with. -/
def left (c : Dev nD) : sProp 𝕄 := iprop(unscopedSems0 c ∗ ((c : Thread nD τ).loc main_arg1 ↦{fullShare} m ((c : Thread nD τ).loc main_arg1)))

theorem leave (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, scopedRest0_eq, scoped_eq]
  unfold Φ₁ left scratch
  rw [unscoped_eq]
  iintro ⟨Hw, HzB, Hz, Hs⟩
  isplitl [HzB Hw]
  · isplitl [HzB] <;> iassumption
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact fun g u h => owedB_pos 7 h
      · exact fun g i h => absurd h (Nat.lt_irrefl 0))

/-- The kernel's result, everywhere. -/
def Done : PUnit × MemSt nD τ sig (Elt F) → Prop := fun r => ∀ c : Dev nD,
  r.2.mem ((c : Thread nD τ).loc main_v1) = resultOf m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)

theorem result_eq (c : Dev nD) : (dats m ρ 0 c).arrAt (3 : Fin 4) cfg0.N = resultOf m c := by
  refine (dats m ρ 0 c).arrAt_eq_of_after_last (3 : Fin 4) t0_0 (by decide +kernel) _ fun j => ?_
  exact congrArg (resultOf m c) (funext fun a => Fin.ext (by fin_cases a <;> rfl))

set_option maxRecDepth 8000 in
theorem run_main : θ_run defs (onTc (τ := τ) (main (F := F))) (s₀ m ρ) (fun r => Done m r ∧ r.2.sem = fun _ => 0) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m) (G' := ready m) (u₀ := u₀) (hu₀ := deal_u₀ m) (hglob := ready_all m)
    (hA := fun _ _ => rfl) (hpf := fun _ k => k.elim0)
    (X := begun m) (Y := left m) (Z := fun _ => iprop(emp))
    (hX := begun_intro m ρ) (hin := enter m ρ) (hout := leave m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold left
      iintro ⟨⟨Hu, Hw⟩, -, HSI⟩
      icombine HSI Hw gives %h
      imod (Pipeline.unscopedSems0_read (X := unscopedSems0 c) (c := c) fupd_intro s') $$ [Hu HSI] with ⟨%h', HSI⟩
      · isplitl [Hu] <;> iassumption
      imodintro
      isplitr
      · ipureintro; exact ⟨h', Buf.eq_of_forall_mem_univ h⟩
      · iexact HSI)
    (hQ := fun _ h hs => ⟨fun c => ⟨((h c).1 (3 : Fin 4)).trans (result_eq m ρ c), ((h c).1 (0 : Fin 4)).trans ((dats m ρ 0 c).arrAt_in (0 : Fin 4) rfl _),
      (h c).2.2.2, ((h c).1 (1 : Fin 4)).trans ((dats m ρ 0 c).arrAt_in (1 : Fin 4) rfl _), ((h c).1 (2 : Fin 4)).trans ((dats m ρ 0 c).arrAt_in (2 : Fin 4) rfl _)⟩,
      sem_eq_zero hs fun c => (h c).2.2.1⟩)

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Launch
public import Idealize.ShloMosaic.Adequacy
public import Idealize.ShloMosaic.Init

@[expose] public section

noncomputable section

namespace Cert.Proof

open Idealize.ShloMosaic Idealize.SL.Sem

theorem frame_kernelIdeal : Cert.quiescent_KernelIdeal := fun m ρ _ =>
  (θ_run Cert.KernelIdeal.defs _ _).mono (fun _ h => ⟨fun c => (h.1 c).2, h.2⟩)
    (Cert.Exchange.run_main (F := Ideal) m ρ)

/-- The kernel and its reading over the reals are one text: over the same floats they are the same program. -/
theorem defs_eq {F : FTy → Type} [FloatOps F] : Cert.Kernel.defs (F := F) = Cert.KernelIdeal.defs (F := F) := by
  sl_kernel_rfl

theorem main_eq {F : FTy → Type} [FloatOps F] : Cert.Kernel.main (F := F) = Cert.KernelIdeal.main (F := F) := by
  sl_kernel_rfl

/-- So the run over the floats' bits is the kernel's. -/
theorem frame_kernel : Cert.quiescent_Kernel := by
  intro m ρ _
  rw [defs_eq, main_eq]
  exact (θ_run Cert.KernelIdeal.defs _ _).mono (fun _ h => ⟨fun c => (h.1 c).2, h.2⟩)
    (Cert.Exchange.run_main (F := Bits) m ρ)

/-- The reference declares no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Every device ends with its block of columns of the reference's result. -/
theorem algebraic : Cert.algebraic_KernelIdeal_ReferenceIdeal := by
  intro m ρ m' ρ' _ hagree
  refine ⟨Cert.Exchange.wholeOf
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · exact (θ_run Cert.KernelIdeal.defs _ _).mono
      (fun _ h c => ⟨(h.1 c).1.trans (Cert.Exchange.result_block m _ _ _ _ (fun k => (hagree k).1)
        (fun k => (hagree k).2.1) (fun k => (hagree k).2.2.1) (fun k => (hagree k).2.2.2) c), (h.1 c).2⟩)
      (Cert.Exchange.run_main (F := Ideal) m ρ)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
